-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v17_0)) (v1 : (c : Dev Cert.KernelIdeal.nD) → Buf (Elt Ideal) ((c.tc : Thread Cert.KernelIdeal.nD Cert.KernelIdeal.τ).loc Cert.KernelIdeal.main_v17_1)) (v2 : (c : Dev Cert.KernelIdeal.nD) → Buf (Elt Ideal) ((c.tc : Thread Cert.KernelIdeal.nD Cert.KernelIdeal.τ).loc Cert.KernelIdeal.main_v18)) (v3 : (c : Dev Cert.KernelIdeal.nD) → Buf (Elt Ideal) ((c.tc : Thread Cert.KernelIdeal.nD Cert.KernelIdeal.τ).loc Cert.KernelIdeal.main_v19)) (v4 : (c : Dev Cert.KernelIdeal.nD) → Buf (Elt Ideal) ((c.tc : Thread Cert.KernelIdeal.nD Cert.KernelIdeal.τ).loc Cert.KernelIdeal.main_v1_1)) (v5 : (c : Dev Cert.KernelIdeal.nD) → Buf (Elt Ideal) ((c.tc : Thread Cert.KernelIdeal.nD Cert.KernelIdeal.τ).loc Cert.KernelIdeal.main_v1_2)) (v6 : (c : Dev Cert.KernelIdeal.nD) → Buf (Elt Ideal) ((c.tc : Thread Cert.KernelIdeal.nD Cert.KernelIdeal.τ).loc Cert.KernelIdeal.main_v1_3)) (v7 : (c : Dev Cert.KernelIdeal.nD) → Buf (Elt Ideal) ((c.tc : Thread Cert.KernelIdeal.nD Cert.KernelIdeal.τ).loc Cert.KernelIdeal.main_v1_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17_0) = v0 c
          ∧ r.2.mem ((c.tc : Thread Cert.KernelIdeal.nD Cert.KernelIdeal.τ).loc Cert.KernelIdeal.main_v17_1) = v1 c
          ∧ r.2.mem ((c.tc : Thread Cert.KernelIdeal.nD Cert.KernelIdeal.τ).loc Cert.KernelIdeal.main_v18) = v2 c
          ∧ r.2.mem ((c.tc : Thread Cert.KernelIdeal.nD Cert.KernelIdeal.τ).loc Cert.KernelIdeal.main_v19) = v3 c
          ∧ r.2.mem ((c.tc : Thread Cert.KernelIdeal.nD Cert.KernelIdeal.τ).loc Cert.KernelIdeal.main_v1_1) = v4 c
          ∧ r.2.mem ((c.tc : Thread Cert.KernelIdeal.nD Cert.KernelIdeal.τ).loc Cert.KernelIdeal.main_v1_2) = v5 c
          ∧ r.2.mem ((c.tc : Thread Cert.KernelIdeal.nD Cert.KernelIdeal.τ).loc Cert.KernelIdeal.main_v1_3) = v6 c
          ∧ r.2.mem ((c.tc : Thread Cert.KernelIdeal.nD Cert.KernelIdeal.τ).loc Cert.KernelIdeal.main_v1_4) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_v30) = v2 c
          ∧ r.2.mem ((c.tc : Thread Cert.ReferenceIdeal.nD Cert.ReferenceIdeal.τ).loc Cert.ReferenceIdeal.main_v36) = v3 c
          ∧ r.2.mem ((c.tc : Thread Cert.ReferenceIdeal.nD Cert.ReferenceIdeal.τ).loc Cert.ReferenceIdeal.main_v3_1) = v4 c
          ∧ r.2.mem ((c.tc : Thread Cert.ReferenceIdeal.nD Cert.ReferenceIdeal.τ).loc Cert.ReferenceIdeal.main_v3_2) = v5 c
          ∧ r.2.mem ((c.tc : Thread Cert.ReferenceIdeal.nD Cert.ReferenceIdeal.τ).loc Cert.ReferenceIdeal.main_v3_3) = v6 c
          ∧ r.2.mem ((c.tc : Thread Cert.ReferenceIdeal.nD Cert.ReferenceIdeal.τ).loc Cert.ReferenceIdeal.main_v3_4) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x2688x2816 : Shape := ⟨3, ![3, 2688, 2816]⟩
abbrev S3x2688x2688 : Shape := ⟨3, ![3, 2688, 2688]⟩
abbrev S3x2816x2816 : Shape := ⟨3, ![3, 2816, 2816]⟩
abbrev S3x2688x11 : Shape := ⟨3, ![3, 2688, 11]⟩
abbrev S3 : Shape := ⟨1, ![3]⟩
abbrev S1x2688x384 : Shape := ⟨3, ![1, 2688, 384]⟩
abbrev S1x2688x2816 : Shape := ⟨3, ![1, 2688, 2816]⟩
abbrev S1x384x2816 : Shape := ⟨3, ![1, 384, 2816]⟩
abbrev S2688x384 : Shape := ⟨2, ![2688, 384]⟩
abbrev S2688x2816 : Shape := ⟨2, ![2688, 2816]⟩
abbrev S384x2816 : Shape := ⟨2, ![384, 2816]⟩
abbrev S1x2816x2816 : Shape := ⟨3, ![1, 2816, 2816]⟩
abbrev S1x384x11 : Shape := ⟨3, ![1, 384, 11]⟩
abbrev S1x2816x256 : Shape := ⟨3, ![1, 2816, 256]⟩
abbrev S2816x256 : Shape := ⟨2, ![2816, 256]⟩
abbrev S384x256 : Shape := ⟨2, ![384, 256]⟩
abbrev S1x384x256 : Shape := ⟨3, ![1, 384, 256]⟩
abbrev S1x384x1 : Shape := ⟨3, ![1, 384, 1]⟩
abbrev S384x1 : Shape := ⟨2, ![384, 1]⟩
abbrev S384 : Shape := ⟨1, ![384]⟩
abbrev S1x384x2688 : Shape := ⟨3, ![1, 384, 2688]⟩
abbrev S384x2688 : Shape := ⟨2, ![384, 2688]⟩
abbrev S_ : Shape := ⟨0, ![]⟩
abbrev S3x1x1 : Shape := ⟨3, ![3, 1, 1]⟩
abbrev S1x192x2816 : Shape := ⟨3, ![1, 192, 2816]⟩
abbrev S1x1x1 : Shape := ⟨3, ![1, 1, 1]⟩
abbrev S192x2816 : Shape := ⟨2, ![192, 2816]⟩
abbrev S2816x2816 : Shape := ⟨2, ![2816, 2816]⟩
abbrev S1x192x2688 : Shape := ⟨3, ![1, 192, 2688]⟩
abbrev S192x2688 : Shape := ⟨2, ![192, 2688]⟩
abbrev S1x2688x256 : Shape := ⟨3, ![1, 2688, 256]⟩
abbrev S1x256x2816 : Shape := ⟨3, ![1, 256, 2816]⟩
abbrev S2688x256 : Shape := ⟨2, ![2688, 256]⟩
abbrev S256x2816 : Shape := ⟨2, ![256, 2816]⟩

abbrev nBuf : Space → Nat
  | .hbm => 41
  | .vmem => 60
  | .smem => 2
  | _ => 0

abbrev bufTy : (tb : Table) → Fin (tcTables nBuf tb) → BufTy
  | .hbm, ⟨0, _⟩ => ⟨S3x2688x2816, .f32⟩
  | .hbm, ⟨1, _⟩ => ⟨S3x2688x2816, .bf16⟩
  | .hbm, ⟨2, _⟩ => ⟨S3x2688x2688, .bf16⟩
  | .hbm, ⟨3, _⟩ => ⟨S3x2816x2816, .bf16⟩
  | .hbm, ⟨4, _⟩ => ⟨S3x2688x2816, .i8⟩
  | .hbm, ⟨5, _⟩ => ⟨S3x2688x11, .f32⟩
  | .hbm, ⟨6, _⟩ => ⟨S3x2688x2816, .i8⟩
  | .hbm, ⟨7, _⟩ => ⟨S3x2688x11, .f32⟩
  | .hbm, ⟨8, _⟩ => ⟨S3x2688x2688, .f32⟩
  | .hbm, ⟨9, _⟩ => ⟨S3x2816x2816, .f32⟩
  | .hbm, ⟨10, _⟩ => ⟨S3, .i32⟩
  | .hbm, ⟨11, _⟩ => ⟨S3x2688x2816, .bf16⟩
  | .hbm, ⟨12, _⟩ => ⟨S3x2688x2816, .bf16⟩
  | .hbm, ⟨13, _⟩ => ⟨S3x2688x2816, .i8⟩
  | .hbm, ⟨14, _⟩ => ⟨S3x2688x11, .f32⟩
  | .hbm, ⟨15, _⟩ => ⟨S3x2688x2816, .i8⟩
  | .hbm, ⟨16, _⟩ => ⟨S3x2688x11, .f32⟩
  | .hbm, ⟨17, _⟩ => ⟨S3x2688x2816, .bf16⟩
  | .hbm, ⟨18, _⟩ => ⟨S3, .f32⟩
  | .hbm, ⟨19, _⟩ => ⟨S_, .f32⟩
  | .hbm, ⟨20, _⟩ => ⟨S3, .f32⟩
  | .hbm, ⟨21, _⟩ => ⟨S3, .f32⟩
  | .hbm, ⟨22, _⟩ => ⟨S_, .f32⟩
  | .hbm, ⟨23, _⟩ => ⟨S3, .f32⟩
  | .hbm, ⟨24, _⟩ => ⟨S3, .f32⟩
  | .hbm, ⟨25, _⟩ => ⟨S3, .f32⟩
  | .hbm, ⟨26, _⟩ => ⟨S_, .f32⟩
  | .hbm, ⟨27, _⟩ => ⟨S3, .f32⟩
  | .hbm, ⟨28, _⟩ => ⟨S3, .f32⟩
  | .hbm, ⟨29, _⟩ => ⟨S_, .f32⟩
  | .hbm, ⟨30, _⟩ => ⟨S3, .f32⟩
  | .hbm, ⟨31, _⟩ => ⟨S3, .f32⟩
  | .hbm, ⟨32, _⟩ => ⟨S_, .f32⟩
  | .hbm, ⟨33, _⟩ => ⟨S3, .f32⟩
  | .hbm, ⟨34, _⟩ => ⟨S3, .f32⟩
  | .hbm, ⟨35, _⟩ => ⟨S3, .f32⟩
  | .hbm, ⟨36, _⟩ => ⟨S3x1x1, .f32⟩
  | .hbm, ⟨37, _⟩ => ⟨S3x2688x2816, .f32⟩
  | .hbm, ⟨38, _⟩ => ⟨S3x2688x2816, .f32⟩
  | .hbm, ⟨39, _⟩ => ⟨S3x2688x2688, .f32⟩
  | .hbm, ⟨40, _⟩ => ⟨S3x2816x2816, .f32⟩
  | .local _ .vmem, ⟨0, _⟩ => ⟨S1x2688x384, .bf16⟩
  | .local _ .vmem, ⟨1, _⟩ => ⟨S1x2688x384, .bf16⟩
  | .local _ .vmem, ⟨2, _⟩ => ⟨S1x2688x2816, .bf16⟩
  | .local _ .vmem, ⟨3, _⟩ => ⟨S1x2688x2816, .bf16⟩
  | .local _ .vmem, ⟨4, _⟩ => ⟨S1x384x2816, .bf16⟩
  | .local _ .vmem, ⟨5, _⟩ => ⟨S1x384x2816, .bf16⟩
  | .local _ .vmem, ⟨6, _⟩ => ⟨S1x384x2816, .bf16⟩
  | .local _ .vmem, ⟨7, _⟩ => ⟨S1x384x2816, .bf16⟩
  | .local _ .vmem, ⟨8, _⟩ => ⟨S1x2816x2816, .bf16⟩
  | .local _ .vmem, ⟨9, _⟩ => ⟨S1x2816x2816, .bf16⟩
  | .local _ .vmem, ⟨10, _⟩ => ⟨S1x384x2816, .i8⟩
  | .local _ .vmem, ⟨11, _⟩ => ⟨S1x384x2816, .i8⟩
  | .local _ .vmem, ⟨12, _⟩ => ⟨S1x384x11, .f32⟩
  | .local _ .vmem, ⟨13, _⟩ => ⟨S1x384x11, .f32⟩
  | .local _ .vmem, ⟨14, _⟩ => ⟨S1x384x2816, .i8⟩
  | .local _ .vmem, ⟨15, _⟩ => ⟨S1x384x2816, .i8⟩
  | .local _ .vmem, ⟨16, _⟩ => ⟨S1x384x11, .f32⟩
  | .local _ .vmem, ⟨17, _⟩ => ⟨S1x384x11, .f32⟩
  | .local _ .vmem, ⟨18, _⟩ => ⟨S1x384x2816, .bf16⟩
  | .local _ .vmem, ⟨19, _⟩ => ⟨S1x384x2816, .bf16⟩
  | .local _ .vmem, ⟨20, _⟩ => ⟨S1x384x2816, .i8⟩
  | .local _ .vmem, ⟨21, _⟩ => ⟨S1x384x2816, .i8⟩
  | .local _ .vmem, ⟨22, _⟩ => ⟨S1x384x11, .f32⟩
  | .local _ .vmem, ⟨23, _⟩ => ⟨S1x384x11, .f32⟩
  | .local _ .vmem, ⟨24, _⟩ => ⟨S1x384x2816, .i8⟩
  | .local _ .vmem, ⟨25, _⟩ => ⟨S1x384x2816, .i8⟩
  | .local _ .vmem, ⟨26, _⟩ => ⟨S1x384x11, .f32⟩
  | .local _ .vmem, ⟨27, _⟩ => ⟨S1x384x11, .f32⟩
  | .local _ .vmem, ⟨28, _⟩ => ⟨S1x384x2688, .bf16⟩
  | .local _ .vmem, ⟨29, _⟩ => ⟨S1x384x2688, .bf16⟩
  | .local _ .vmem, ⟨30, _⟩ => ⟨S1x2688x2816, .bf16⟩
  | .local _ .vmem, ⟨31, _⟩ => ⟨S1x2688x2816, .bf16⟩
  | .local _ .vmem, ⟨32, _⟩ => ⟨S1x384x2816, .bf16⟩
  | .local _ .vmem, ⟨33, _⟩ => ⟨S1x384x2816, .bf16⟩
  | .local _ .vmem, ⟨34, _⟩ => ⟨S1x192x2816, .bf16⟩
  | .local _ .vmem, ⟨35, _⟩ => ⟨S1x192x2816, .bf16⟩
  | .local _ .vmem, ⟨36, _⟩ => ⟨S1x2816x2816, .bf16⟩
  | .local _ .vmem, ⟨37, _⟩ => ⟨S1x2816x2816, .bf16⟩
  | .local _ .vmem, ⟨38, _⟩ => ⟨S1x192x2816, .f32⟩
  | .local _ .vmem, ⟨39, _⟩ => ⟨S1x192x2816, .f32⟩
  | .local _ .vmem, ⟨40, _⟩ => ⟨S1x192x2816, .f32⟩
  | .local _ .vmem, ⟨41, _⟩ => ⟨S1x192x2816, .f32⟩
  | .local _ .vmem, ⟨42, _⟩ => ⟨S1x192x2816, .f32⟩
  | .local _ .vmem, ⟨43, _⟩ => ⟨S1x192x2816, .f32⟩
  | .local _ .vmem, ⟨44, _⟩ => ⟨S1x192x2816, .bf16⟩
  | .local _ .vmem, ⟨45, _⟩ => ⟨S1x192x2816, .bf16⟩
  | .local _ .vmem, ⟨46, _⟩ => ⟨S1x2688x2816, .bf16⟩
  | .local _ .vmem, ⟨47, _⟩ => ⟨S1x2688x2816, .bf16⟩
  | .local _ .vmem, ⟨48, _⟩ => ⟨S1x192x2688, .f32⟩
  | .local _ .vmem, ⟨49, _⟩ => ⟨S1x192x2688, .f32⟩
  | .local _ .vmem, ⟨50, _⟩ => ⟨S1x192x2688, .f32⟩
  | .local _ .vmem, ⟨51, _⟩ => ⟨S1x192x2688, .f32⟩
  | .local _ .vmem, ⟨52, _⟩ => ⟨S1x2688x256, .bf16⟩
  | .local _ .vmem, ⟨53, _⟩ => ⟨S1x2688x256, .bf16⟩
  | .local _ .vmem, ⟨54, _⟩ => ⟨S1x2688x2816, .bf16⟩
  | .local _ .vmem, ⟨55, _⟩ => ⟨S1x2688x2816, .bf16⟩
  | .local _ .vmem, ⟨56, _⟩ => ⟨S1x256x2816, .f32⟩
  | .local _ .vmem, ⟨57, _⟩ => ⟨S1x256x2816, .f32⟩
  | .local _ .vmem, ⟨58, _⟩ => ⟨S1x256x2816, .f32⟩
  | .local _ .vmem, ⟨59, _⟩ => ⟨S1x256x2816, .f32⟩
  | .local _ .smem, ⟨0, _⟩ => ⟨S1x1x1, .f32⟩
  | .local _ .smem, ⟨1, _⟩ => ⟨S1x1x1, .f32⟩
  | _, _ => ⟨S3x2688x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 62 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | _ => false

abbrev sig : RefSig :=
  ofTc nBuf bufTy 0 62 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1_0 : Ref sig .tc := ⟨.hbm, 12, rfl⟩
abbrev main_v1_1 : Ref sig .tc := ⟨.hbm, 13, rfl⟩
abbrev main_v1_2 : Ref sig .tc := ⟨.hbm, 14, rfl⟩
abbrev main_v1_3 : Ref sig .tc := ⟨.hbm, 15, rfl⟩
abbrev main_v1_4 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_v5 : Ref sig .tc := ⟨.hbm, 21, rfl⟩
abbrev main_cst_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_cst_1 : Ref sig .tc := ⟨.hbm, 26, rfl⟩
abbrev main_v9 : Ref sig .tc := ⟨.hbm, 27, rfl⟩
abbrev main_v10 : Ref sig .tc := ⟨.hbm, 28, rfl⟩
abbrev main_cst_2 : Ref sig .tc := ⟨.hbm, 29, rfl⟩
abbrev main_v11 : Ref sig .tc := ⟨.hbm, 30, rfl⟩
abbrev main_v12 : Ref sig .tc := ⟨.hbm, 31, rfl⟩
abbrev main_cst_3 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17_0 : Ref sig .tc := ⟨.hbm, 37, rfl⟩
abbrev main_v17_1 : Ref sig .tc := ⟨.hbm, 38, rfl⟩
abbrev main_v18 : Ref sig .tc := ⟨.hbm, 39, rfl⟩
abbrev main_v19 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc1_stg7_0 : Ref sig .tc := ⟨.vmem, 20, rfl⟩
abbrev cc1_stg7_1 : Ref sig .tc := ⟨.vmem, 21, rfl⟩
abbrev cc1_stg8_0 : Ref sig .tc := ⟨.vmem, 22, rfl⟩
abbrev cc1_stg8_1 : Ref sig .tc := ⟨.vmem, 23, rfl⟩
abbrev cc1_stg9_0 : Ref sig .tc := ⟨.vmem, 24, rfl⟩
abbrev cc1_stg9_1 : Ref sig .tc := ⟨.vmem, 25, rfl⟩
abbrev cc1_stg10_0 : Ref sig .tc := ⟨.vmem, 26, rfl⟩
abbrev cc1_stg10_1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg1_1 : Ref sig .tc := ⟨.vmem, 31, rfl⟩
abbrev cc2_stg2_0 : Ref sig .tc := ⟨.vmem, 32, rfl⟩
abbrev cc2_stg2_1 : Ref sig .tc := ⟨.vmem, 33, rfl⟩
abbrev cc3_stg0_0 : Ref sig .tc := ⟨.vmem, 34, rfl⟩
abbrev cc3_stg0_1 : Ref sig .tc := ⟨.vmem, 35, rfl⟩
abbrev cc3_stg1_0 : Ref sig .tc := ⟨.vmem, 36, rfl⟩
abbrev cc3_stg1_1 : Ref sig .tc := ⟨.vmem, 37, rfl⟩
abbrev cc3_stg2_0 : Ref sig .tc := ⟨.vmem, 38, rfl⟩
abbrev cc3_stg2_1 : Ref sig .tc := ⟨.vmem, 39, rfl⟩
abbrev cc3_stg4_0 : Ref sig .tc := ⟨.vmem, 40, rfl⟩
abbrev cc3_stg4_1 : Ref sig .tc := ⟨.vmem, 41, rfl⟩
abbrev cc3_stg5_0 : Ref sig .tc := ⟨.vmem, 42, rfl⟩
abbrev cc3_stg5_1 : Ref sig .tc := ⟨.vmem, 43, rfl⟩
abbrev cc4_stg0_0 : Ref sig .tc := ⟨.vmem, 44, rfl⟩
abbrev cc4_stg0_1 : Ref sig .tc := ⟨.vmem, 45, rfl⟩
abbrev cc4_stg1_0 : Ref sig .tc := ⟨.vmem, 46, rfl⟩
abbrev cc4_stg1_1 : Ref sig .tc := ⟨.vmem, 47, rfl⟩
abbrev cc4_stg2_0 : Ref sig .tc := ⟨.vmem, 48, rfl⟩
abbrev cc4_stg2_1 : Ref sig .tc := ⟨.vmem, 49, rfl⟩
abbrev cc4_stg3_0 : Ref sig .tc := ⟨.vmem, 50, rfl⟩
abbrev cc4_stg3_1 : Ref sig .tc := ⟨.vmem, 51, rfl⟩
abbrev cc5_stg0_0 : Ref sig .tc := ⟨.vmem, 52, rfl⟩
abbrev cc5_stg0_1 : Ref sig .tc := ⟨.vmem, 53, rfl⟩
abbrev cc5_stg1_0 : Ref sig .tc := ⟨.vmem, 54, rfl⟩
abbrev cc5_stg1_1 : Ref sig .tc := ⟨.vmem, 55, rfl⟩
abbrev cc5_stg2_0 : Ref sig .tc := ⟨.vmem, 56, rfl⟩
abbrev cc5_stg2_1 : Ref sig .tc := ⟨.vmem, 57, rfl⟩
abbrev cc5_stg3_0 : Ref sig .tc := ⟨.vmem, 58, rfl⟩
abbrev cc5_stg3_1 : Ref sig .tc := ⟨.vmem, 59, rfl⟩
abbrev cc3_stg3_0 : Ref sig .tc := ⟨.smem, 0, rfl⟩
abbrev cc3_stg3_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc1_sem6_0 : DmaSem sig := 18
abbrev cc1_sem6_1 : DmaSem sig := 19
abbrev cc1_sem7_0 : DmaSem sig := 20
abbrev cc1_sem7_1 : DmaSem sig := 21
abbrev cc1_sem8_0 : DmaSem sig := 22
abbrev cc1_sem8_1 : DmaSem sig := 23
abbrev cc1_sem9_0 : DmaSem sig := 24
abbrev cc1_sem9_1 : DmaSem sig := 25
abbrev cc1_sem10_0 : DmaSem sig := 26
abbrev cc1_sem10_1 : DmaSem sig := 27
abbrev cc2_sem0_0 : DmaSem sig := 28
abbrev cc2_sem0_1 : DmaSem sig := 29
abbrev cc2_sem1_0 : DmaSem sig := 30
abbrev cc2_sem1_1 : DmaSem sig := 31
abbrev cc2_sem2_0 : DmaSem sig := 32
abbrev cc2_sem2_1 : DmaSem sig := 33
abbrev cc3_sem0_0 : DmaSem sig := 34
abbrev cc3_sem0_1 : DmaSem sig := 35
abbrev cc3_sem1_0 : DmaSem sig := 36
abbrev cc3_sem1_1 : DmaSem sig := 37
abbrev cc3_sem2_0 : DmaSem sig := 38
abbrev cc3_sem2_1 : DmaSem sig := 39
abbrev cc3_sem3_0 : DmaSem sig := 40
abbrev cc3_sem3_1 : DmaSem sig := 41
abbrev cc3_sem4_0 : DmaSem sig := 42
abbrev cc3_sem4_1 : DmaSem sig := 43
abbrev cc3_sem5_0 : DmaSem sig := 44
abbrev cc3_sem5_1 : DmaSem sig := 45
abbrev cc4_sem0_0 : DmaSem sig := 46
abbrev cc4_sem0_1 : DmaSem sig := 47
abbrev cc4_sem1_0 : DmaSem sig := 48
abbrev cc4_sem1_1 : DmaSem sig := 49
abbrev cc4_sem2_0 : DmaSem sig := 50
abbrev cc4_sem2_1 : DmaSem sig := 51
abbrev cc4_sem3_0 : DmaSem sig := 52
abbrev cc4_sem3_1 : DmaSem sig := 53
abbrev cc5_sem0_0 : DmaSem sig := 54
abbrev cc5_sem0_1 : DmaSem sig := 55
abbrev cc5_sem1_0 : DmaSem sig := 56
abbrev cc5_sem1_1 : DmaSem sig := 57
abbrev cc5_sem2_0 : DmaSem sig := 58
abbrev cc5_sem2_1 : DmaSem sig := 59
abbrev cc5_sem3_0 : DmaSem sig := 60
abbrev cc5_sem3_1 : DmaSem sig := 61

abbrev nD : Nat := 1
abbrev τ : Topo := Topo.v7x

variable {F : FTy → Type} [FloatOps F]

abbrev grid0 : Pipeline.Grid := ⟨2, ![3, 7], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2688x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2688x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x384x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![3, 7], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_10 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x384x2816 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2816x2816 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x384x2816 .i8 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x384x11 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x384x2816 .i8 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x384x11 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x384x2816 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x384x2816 .i8 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S1x384x11 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S1x384x2816 .i8 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S1x384x11 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

abbrev grid2 : Pipeline.Grid := ⟨2, ![3, 7], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x384x2688 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x2688x2816 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x384x2816 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![3, 14], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_4 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_5 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 2 → Memref sig .tc .vmem S1x192x2816 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x2816x2816 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S1x192x2816 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .smem S1x1x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev stage3_4 : Fin 2 → Memref sig .tc .vmem S1x192x2816 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]

abbrev stage3_5 : Fin 2 → Memref sig .tc .vmem S1x192x2816 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true]

abbrev grid4 : Pipeline.Grid := ⟨2, ![3, 14], ![false, false]⟩

def cc4_transform_0 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc4_transform_1 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc4_transform_2 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc4_transform_3 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage4_0 : Fin 2 → Memref sig .tc .vmem S1x192x2816 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S1x2688x2816 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev stage4_2 : Fin 2 → Memref sig .tc .vmem S1x192x2688 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev stage4_3 : Fin 2 → Memref sig .tc .vmem S1x192x2688 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true]

abbrev grid5 : Pipeline.Grid := ⟨2, ![3, 11], ![false, false]⟩

def cc5_transform_0 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc5_transform_1 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc5_transform_2 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc5_transform_3 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage5_0 : Fin 2 → Memref sig .tc .vmem S1x2688x256 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 2 → Memref sig .tc .vmem S1x2688x2816 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, false]

abbrev stage5_2 : Fin 2 → Memref sig .tc .vmem S1x256x2816 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev stage5_3 : Fin 2 → Memref sig .tc .vmem S1x256x2816 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, true]
-- ==== ReferenceIdeal.lean ====
abbrev S3x2688x2816 : Shape := ⟨3, ![3, 2688, 2816]⟩
abbrev S3x2688x2688 : Shape := ⟨3, ![3, 2688, 2688]⟩
abbrev S3x2816x2816 : Shape := ⟨3, ![3, 2816, 2816]⟩
abbrev S3x2688x11 : Shape := ⟨3, ![3, 2688, 11]⟩
abbrev S3 : Shape := ⟨1, ![3]⟩
abbrev S3x2688x11x256 : Shape := ⟨4, ![3, 2688, 11, 256]⟩
abbrev S3x2688x11x1 : Shape := ⟨4, ![3, 2688, 11, 1]⟩
abbrev S_ : Shape := ⟨0, ![]⟩
abbrev S3x1x1 : Shape := ⟨3, ![3, 1, 1]⟩

abbrev nBuf : Space → Nat
  | .hbm => 61
  | .vmem => 10
  | .smem => 0
  | _ => 0

abbrev bufTy : (tb : Table) → Fin (tcTables nBuf tb) → BufTy
  | .hbm, ⟨0, _⟩ => ⟨S3x2688x2816, .f32⟩
  | .hbm, ⟨1, _⟩ => ⟨S3x2688x2816, .bf16⟩
  | .hbm, ⟨2, _⟩ => ⟨S3x2688x2688, .bf16⟩
  | .hbm, ⟨3, _⟩ => ⟨S3x2816x2816, .bf16⟩
  | .hbm, ⟨4, _⟩ => ⟨S3x2688x2816, .i8⟩
  | .hbm, ⟨5, _⟩ => ⟨S3x2688x11, .f32⟩
  | .hbm, ⟨6, _⟩ => ⟨S3x2688x2816, .i8⟩
  | .hbm, ⟨7, _⟩ => ⟨S3x2688x11, .f32⟩
  | .hbm, ⟨8, _⟩ => ⟨S3x2688x2688, .f32⟩
  | .hbm, ⟨9, _⟩ => ⟨S3x2816x2816, .f32⟩
  | .hbm, ⟨10, _⟩ => ⟨S3, .i32⟩
  | .hbm, ⟨11, _⟩ => ⟨S3x2688x2816, .f32⟩
  | .hbm, ⟨12, _⟩ => ⟨S3x2688x2816, .bf16⟩
  | .hbm, ⟨13, _⟩ => ⟨S3x2688x2816, .f32⟩
  | .hbm, ⟨14, _⟩ => ⟨S3x2688x2816, .bf16⟩
  | .hbm, ⟨15, _⟩ => ⟨S3x2688x2816, .i8⟩
  | .hbm, ⟨16, _⟩ => ⟨S3x2688x11, .f32⟩
  | .hbm, ⟨17, _⟩ => ⟨S3x2688x2816, .i8⟩
  | .hbm, ⟨18, _⟩ => ⟨S3x2688x11, .f32⟩
  | .hbm, ⟨19, _⟩ => ⟨S3x2688x2816, .f32⟩
  | .hbm, ⟨20, _⟩ => ⟨S3x2688x2816, .bf16⟩
  | .hbm, ⟨21, _⟩ => ⟨S3x2688x2816, .f32⟩
  | .hbm, ⟨22, _⟩ => ⟨S3, .f32⟩
  | .hbm, ⟨23, _⟩ => ⟨S_, .f32⟩
  | .hbm, ⟨24, _⟩ => ⟨S3, .f32⟩
  | .hbm, ⟨25, _⟩ => ⟨S3, .f32⟩
  | .hbm, ⟨26, _⟩ => ⟨S_, .f32⟩
  | .hbm, ⟨27, _⟩ => ⟨S3, .f32⟩
  | .hbm, ⟨28, _⟩ => ⟨S3, .f32⟩
  | .hbm, ⟨29, _⟩ => ⟨S3, .f32⟩
  | .hbm, ⟨30, _⟩ => ⟨S_, .f32⟩
  | .hbm, ⟨31, _⟩ => ⟨S3, .f32⟩
  | .hbm, ⟨32, _⟩ => ⟨S3, .f32⟩
  | .hbm, ⟨33, _⟩ => ⟨S_, .f32⟩
  | .hbm, ⟨34, _⟩ => ⟨S3, .f32⟩
  | .hbm, ⟨35, _⟩ => ⟨S3, .f32⟩
  | .hbm, ⟨36, _⟩ => ⟨S_, .f32⟩
  | .hbm, ⟨37, _⟩ => ⟨S3, .f32⟩
  | .hbm, ⟨38, _⟩ => ⟨S3, .f32⟩
  | .hbm, ⟨39, _⟩ => ⟨S3, .f32⟩
  | .hbm, ⟨40, _⟩ => ⟨S3x1x1, .f32⟩
  | .hbm, ⟨41, _⟩ => ⟨S3x1x1, .f32⟩
  | .hbm, ⟨42, _⟩ => ⟨S3x2688x2816, .f32⟩
  | .hbm, ⟨43, _⟩ => ⟨S3x2688x2816, .f32⟩
  | .hbm, ⟨44, _⟩ => ⟨S3x2688x2816, .f32⟩
  | .hbm, ⟨45, _⟩ => ⟨S_, .f32⟩
  | .hbm, ⟨46, _⟩ => ⟨S3x2688x2688, .f32⟩
  | .hbm, ⟨47, _⟩ => ⟨S3x2688x2688, .f32⟩
  | .hbm, ⟨48, _⟩ => ⟨S3x2688x2688, .f32⟩
  | .hbm, ⟨49, _⟩ => ⟨S_, .f32⟩
  | .hbm, ⟨50, _⟩ => ⟨S3x2688x2688, .f32⟩
  | .hbm, ⟨51, _⟩ => ⟨S3x2688x2688, .f32⟩
  | .hbm, ⟨52, _⟩ => ⟨S3x2688x2688, .f32⟩
  | .hbm, ⟨53, _⟩ => ⟨S_, .f32⟩
  | .hbm, ⟨54, _⟩ => ⟨S3x2816x2816, .f32⟩
  | .hbm, ⟨55, _⟩ => ⟨S3x2816x2816, .f32⟩
  | .hbm, ⟨56, _⟩ => ⟨S3x2816x2816, .f32⟩
  | .hbm, ⟨57, _⟩ => ⟨S_, .f32⟩
  | .hbm, ⟨58, _⟩ => ⟨S3x2816x2816, .f32⟩
  | .hbm, ⟨59, _⟩ => ⟨S3x2816x2816, .f32⟩
  | .hbm, ⟨60, _⟩ => ⟨S3x2816x2816, .f32⟩
  | .local _ .vmem, ⟨0, _⟩ => ⟨S3x2688x2816, .f32⟩
  | .local _ .vmem, ⟨1, _⟩ => ⟨S3x2688x2816, .i8⟩
  | .local _ .vmem, ⟨2, _⟩ => ⟨S3x2688x11, .f32⟩
  | .local _ .vmem, ⟨3, _⟩ => ⟨S3x2688x2816, .i8⟩
  | .local _ .vmem, ⟨4, _⟩ => ⟨S3x2688x11, .f32⟩
  | .local _ .vmem, ⟨5, _⟩ => ⟨S3x2688x2816, .bf16⟩
  | .local _ .vmem, ⟨6, _⟩ => ⟨S3x2688x2816, .i8⟩
  | .local _ .vmem, ⟨7, _⟩ => ⟨S3x2688x11, .f32⟩
  | .local _ .vmem, ⟨8, _⟩ => ⟨S3x2688x2816, .i8⟩
  | .local _ .vmem, ⟨9, _⟩ => ⟨S3x2688x11, .f32⟩
  | _, _ => ⟨S3x2688x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3_0 : Ref sig .tc := ⟨.hbm, 14, rfl⟩
abbrev main_v3_1 : Ref sig .tc := ⟨.hbm, 15, rfl⟩
abbrev main_v3_2 : Ref sig .tc := ⟨.hbm, 16, rfl⟩
abbrev main_v3_3 : Ref sig .tc := ⟨.hbm, 17, rfl⟩
abbrev main_v3_4 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst : Ref sig .tc := ⟨.hbm, 23, rfl⟩
abbrev main_v8 : Ref sig .tc := ⟨.hbm, 24, rfl⟩
abbrev main_v9 : Ref sig .tc := ⟨.hbm, 25, rfl⟩
abbrev main_cst_0 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst_1 : Ref sig .tc := ⟨.hbm, 30, rfl⟩
abbrev main_v13 : Ref sig .tc := ⟨.hbm, 31, rfl⟩
abbrev main_v14 : Ref sig .tc := ⟨.hbm, 32, rfl⟩
abbrev main_cst_2 : Ref sig .tc := ⟨.hbm, 33, rfl⟩
abbrev main_v15 : Ref sig .tc := ⟨.hbm, 34, rfl⟩
abbrev main_v16 : Ref sig .tc := ⟨.hbm, 35, rfl⟩
abbrev main_cst_3 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_4 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_5 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_6 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_7 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S3x2688x2816 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x2688x2816 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x2688x11 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x2688x2816 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x2688x11 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x2688x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3x2688x2816 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3x2688x11 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S3x2688x2816 .i8 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S3x2688x11 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.Spec.lean ====
/-
  THE MATHEMATICS of the step, on whole arrays of extended reals (and the arrays of int8 codes), free of any tiling.

  The names follow the algorithm: the gradient is rotated into the eigenbases (`t1`, `rot`), the two int8 moments are
  decoded and averaged with it (`mArr`, `vArr`), the normalized direction is their quotient (`nrArr`), each moment is
  encoded again in blocks of 256 columns (`mScale`, `mCode`, `vScale`, `vCode`), the direction is rotated back
  (`t2`, `back`), scaled by the step size (`stepSize`, `delta`, `wNew`), and the two gradient statistics are averaged
  (`lNew`, `rNew`). The modules beside this one show that the kernel's result arrays and the reference's are these.
-/
module

public import Idealize.ShloMosaic.Lib.Pointwise

@[expose] public section

noncomputable section

namespace Soap

open Idealize.ShloMosaic

/-- The shape of the weights, the gradient and the moments' codes. -/
abbrev SW : Shape := ⟨3, ![3, 2688, 2816]⟩
/-- The shape of the left eigenbasis and the left statistic. -/
abbrev SL : Shape := ⟨3, ![3, 2688, 2688]⟩
/-- The shape of the right eigenbasis and the right statistic. -/
abbrev SR : Shape := ⟨3, ![3, 2816, 2816]⟩
/-- The shape of the moments' scales: one per row and block of 256 columns. -/
abbrev SS : Shape := ⟨3, ![3, 2688, 11]⟩
/-- The shape of the step counters: one per layer. -/
abbrev SB : Shape := ⟨1, ![3]⟩

/-! ## Constants, as the programs carry them -/

/-- The decay 0.95 as an f32. -/
abbrev beta : EReal := Ideal.ofBits .f32 0x3F733333#32
/-- One minus that decay, as the f32 the subtraction gives. -/
abbrev beta' : EReal := Ideal.ofBits .f32 0x3D4CCCD0#32
/-- The 1e-8 added to the denominator. -/
abbrev eps : EReal := Ideal.ofBits .f32 0x322BCC77#32
/-- The f32 127 a block's largest magnitude is divided by. -/
abbrev qmax : EReal := Ideal.ofBits .f32 0x42FE0000#32

/-! ## One entry -/

/-- The first moment's new value from its old code and scale and the rotated gradient. -/
def mNew (code : BitVec 8) (scale g : EReal) : EReal :=
  beta * (FloatOps.sitofp (F := Ideal) .f32 code * scale) + beta' * g

/-- The second moment's new value. -/
def vNew (code : BitVec 8) (scale g : EReal) : EReal :=
  beta * (FloatOps.sitofp (F := Ideal) .f32 code * scale) + beta' * g * g

/-- The normalized direction at one entry. -/
def ratio (m v : EReal) : EReal := Ideal.div m (Ideal.sqrt v + eps)

/-- The largest of a block of 256 values. -/
def blockMax (x : Fin 256 → EReal) : EReal := Finset.univ.fold max (Ideal.ofBits .f32 0xFF800000#32) x

/-- A block's scale from its largest magnitude: 1 for a block of zeros. -/
def scaleOf (a : EReal) : EReal := if a = 0 then 1 else Ideal.div a qmax

/-- The int8 code of `x` at scale `s`: `x / s` rounded half to even, clipped to `lo … 127`, converted. -/
def codeOf (lo : BitVec 32) (x s : EReal) : BitVec 8 :=
  FloatOps.fptosi (F := Ideal) (φ := .f32) 8 (min (((127#32).toInt : ℝ) : EReal)
    (max ((lo.toInt : ℝ) : EReal) (Ideal.liftRound Ideal.roundHalfEven (Ideal.div x s))))

/-- The step size of a layer from its counter: `LR * sqrt(1 - 0.95^n) / (1 - 0.95^n)`. -/
def stepSize (n : BitVec 32) : EReal :=
  Ideal.div
    (Ideal.ofBits .f32 994352038#32 *
      Ideal.sqrt (1 - Ideal.pow (Ideal.ofBits .f32 1064514355#32) (FloatOps.sitofp (F := Ideal) .f32 n)))
    (1 - Ideal.pow (Ideal.ofBits .f32 1064514355#32) (FloatOps.sitofp (F := Ideal) .f32 n))

/-! ## Columns and blocks -/

/-- The block of column `j`. -/
def blk (j : Fin 2816) : Fin 11 := ⟨j / 256, by omega⟩

/-- Column `k` of block `j`. -/
def col (j : Fin 11) (k : Fin 256) : Fin 2816 := ⟨j * 256 + k, by omega⟩

/-! ## Whole arrays -/

/-- The gradient rotated by the left eigenbasis: `Σ_k ql[b, k, i] * g[b, k, n]`. -/
def t1 (ql : SL.Idx → EReal) (g : SW.Idx → EReal) : SW.Idx → EReal := fun i =>
  ∑ k : Fin 2688, ql (ix3 (i 0) k (i 1)) * g (ix3 (i 0) k (i 2))

/-- The rotation by the right eigenbasis: `Σ_n t[b, i, n] * qr[b, n, j]`. -/
def rot (t : SW.Idx → EReal) (qr : SR.Idx → EReal) : SW.Idx → EReal := fun i =>
  ∑ k : Fin 2816, t (ix3 (i 0) (i 1) k) * qr (ix3 (i 0) k (i 2))

/-- The new first moment. -/
def mArr (gr : SW.Idx → EReal) (codes : SW.Idx → BitVec 8) (scales : SS.Idx → EReal) : SW.Idx → EReal := fun i =>
  mNew (codes i) (scales (ix3 (i 0) (i 1) (blk (i 2)))) (gr i)

/-- The new second moment. -/
def vArr (gr : SW.Idx → EReal) (codes : SW.Idx → BitVec 8) (scales : SS.Idx → EReal) : SW.Idx → EReal := fun i =>
  vNew (codes i) (scales (ix3 (i 0) (i 1) (blk (i 2)))) (gr i)

/-- The normalized direction. -/
def nrArr (m v : SW.Idx → EReal) : SW.Idx → EReal := fun i => ratio (m i) (v i)

/-- The first moment's new scales: from the largest magnitude of each block. -/
def mScale (m : SW.Idx → EReal) : SS.Idx → EReal := fun i =>
  scaleOf (blockMax fun k => FloatOps.absf (F := Ideal) (φ := .f32) (m (ix3 (i 0) (i 1) (col (i 2) k))))

/-- The first moment's new codes. -/
def mCode (m : SW.Idx → EReal) : SW.Idx → BitVec 8 := fun i =>
  codeOf 4294967169#32 (m i) (mScale m (ix3 (i 0) (i 1) (blk (i 2))))

/-- The second moment's new scales: from the largest value of each block. -/
def vScale (v : SW.Idx → EReal) : SS.Idx → EReal := fun i =>
  scaleOf (blockMax fun k => v (ix3 (i 0) (i 1) (col (i 2) k)))

/-- The second moment's new codes. -/
def vCode (v : SW.Idx → EReal) : SW.Idx → BitVec 8 := fun i =>
  codeOf 0#32 (v i) (vScale v (ix3 (i 0) (i 1) (blk (i 2))))

/-- The direction rotated back by the left eigenbasis: `Σ_k ql[b, i, k] * nr[b, k, j]`. -/
def t2 (ql : SL.Idx → EReal) (nr : SW.Idx → EReal) : SW.Idx → EReal := fun i =>
  ∑ k : Fin 2688, ql (ix3 (i 0) (i 1) k) * nr (ix3 (i 0) k (i 2))

/-- And by the right one: `Σ_j t[b, i, j] * qr[b, n, j]`. -/
def back (t : SW.Idx → EReal) (qr : SR.Idx → EReal) : SW.Idx → EReal := fun i =>
  ∑ k : Fin 2816, t (ix3 (i 0) (i 1) k) * qr (ix3 (i 0) (i 2) k)

/-- The change of the weights, at one step size per layer. -/
def delta (size : Fin 3 → EReal) (u : SW.Idx → EReal) : SW.Idx → EReal := fun i => -size (i 0) * u i

/-- The new weights. -/
def wNew (w d : SW.Idx → EReal) : SW.Idx → EReal := fun i => w i + d i

/-- The new left statistic: the old one averaged with `g gᵀ`. -/
def lNew (l : SL.Idx → EReal) (g : SW.Idx → EReal) : SL.Idx → EReal := fun i =>
  beta * l i + beta' * ∑ k : Fin 2816, g (ix3 (i 0) (i 1) k) * g (ix3 (i 0) (i 2) k)

/-- The new right statistic: the old one averaged with `gᵀ g`. -/
def rNew (r : SR.Idx → EReal) (g : SW.Idx → EReal) : SR.Idx → EReal := fun i =>
  beta * r i + beta' * ∑ k : Fin 2688, g (ix3 (i 0) k (i 1)) * g (ix3 (i 0) k (i 2))

/-! ## The whole step, from its arguments -/

/-- The new first moment from the arguments. -/
def stepM (g : SW.Idx → EReal) (ql : SL.Idx → EReal) (qr : SR.Idx → EReal) (codes : SW.Idx → BitVec 8)
    (scales : SS.Idx → EReal) : SW.Idx → EReal := mArr (rot (t1 ql g) qr) codes scales

/-- The new second moment from the arguments. -/
def stepV (g : SW.Idx → EReal) (ql : SL.Idx → EReal) (qr : SR.Idx → EReal) (codes : SW.Idx → BitVec 8)
    (scales : SS.Idx → EReal) : SW.Idx → EReal := vArr (rot (t1 ql g) qr) codes scales

/-- The change of the weights from the arguments. -/
def stepDelta (g : SW.Idx → EReal) (ql : SL.Idx → EReal) (qr : SR.Idx → EReal) (mc : SW.Idx → BitVec 8)
    (ms : SS.Idx → EReal) (vc : SW.Idx → BitVec 8) (vs : SS.Idx → EReal) (n : SB.Idx → BitVec 32) : SW.Idx → EReal :=
  delta (fun b => stepSize (n (ix1 b)))
    (back (t2 ql (nrArr (stepM g ql qr mc ms) (stepV g ql qr vc vs))) qr)

theorem blk_col (n : Fin 11) (k : Fin 256) : blk (col n k) = n :=
  Fin.ext (by show (n.val * 256 + k.val) / 256 = n.val; omega)

/-! ## Indices -/

/-- An index of a block of one layer is a row and a column. -/
theorem exists_ix3_one {n m : Nat} (y : (⟨3, ![1, n, m]⟩ : Shape).Idx) :
    ∃ (i : Fin n) (j : Fin m), y = ix3 (0 : Fin 1) i j :=
  ⟨y 1, y 2, funext fun a => by
    match a with
    | ⟨0, _⟩ => exact Fin.ext (by have := (y 0).isLt; change (y 0 : Nat) < 1 at this; change (y 0 : Nat) = 0; omega)
    | ⟨1, _⟩ => rfl
    | ⟨2, _⟩ => rfl⟩

/-- Two rank-3 indices with equal coordinates are equal. -/
theorem ix3_ext {a b c : Nat} {x y : (⟨3, ![a, b, c]⟩ : Shape).Idx} (h0 : (x 0 : Nat) = y 0) (h1 : (x 1 : Nat) = y 1)
    (h2 : (x 2 : Nat) = y 2) : x = y :=
  funext fun d => Fin.ext <| by
    match d with
    | ⟨0, _⟩ => exact h0
    | ⟨1, _⟩ => exact h1
    | ⟨2, _⟩ => exact h2

end Soap
end
-- ==== Proof.KT1.lean ====
/-
  THE FIRST CALL of the kernel (`t1`): after it, its result array is the gradient rotated by the left eigenbasis.
-/
module

public import proofs.«01_k».proof.Proof.Spec
public import proofs.«01_k».proof.Proof.Gen.KernelIdeal.Frame
public import Idealize.ShloMosaic.Lib.Pipeline.ValueKit

@[expose] public section

set_option maxRecDepth 16384

noncomputable section

namespace Cert.KernelIdeal.T1

open Idealize.ShloMosaic Idealize.ShloMosaic.TcCoe Idealize.SL.Sem
open Idealize.ShloMosaic.Pipeline (Dat Window)
open Cert.KernelIdeal Cert.KernelIdeal.Gen

variable (V : (c : Dev nD) → (b : Ref sig .tc) → Buf (Elt Ideal) ((c : Thread nD τ).loc b))

/-- Point `t` is layer `t / 7` and row block `t % 7`: the blocks each window reads or writes there. -/
theorem index_eq : ∀ t : Fin grid0.N,
    (win0_0.index t 0 = t.val / 7 ∧ win0_0.index t 1 = 0 ∧ win0_0.index t 2 = t.val % 7)
    ∧ (win0_1.index t 0 = t.val / 7 ∧ win0_1.index t 1 = 0 ∧ win0_1.index t 2 = 0)
    ∧ (win0_2.index t 0 = t.val / 7 ∧ win0_2.index t 1 = t.val % 7 ∧ win0_2.index t 2 = 0) := by
  decide +kernel

/-- The block's payload at an entry: the contraction over the 2688 rows. -/
theorem pay_apply (x0 : Vec Ideal S1x2688x384 .bf16) (x1 : Vec Ideal S1x2688x2816 .bf16) (i : Fin 384) (j : Fin 2816) :
    k0_pay1 x0 x1 (ix3 0 i j) = ∑ k : Fin 2688, x0 (ix3 0 k i) * x1 (ix3 0 k j) := by
  unfold_payloads
  pointwise [dot_S2688x384_S2688x2816_S384x2816_0_0_1_1_n_n]

variable (c : Dev nD)

/-- What the result array is shown to hold. -/
abbrev G : Soap.SW.Idx → EReal := Soap.t1 (V c main_arg2) (V c main_arg1)

/-- The call's result array. -/
theorem arr : (dat0 V c).arrAt 2 cfg0.N = G V c := by
  refine (dat0 V c).arrAt_eq_of_covers 2 _ (by decide +kernel) fun t _ y => ?_
  obtain ⟨⟨a0, a1, a2⟩, ⟨b0, b1, b2⟩, ⟨o0, o1, o2⟩⟩ := index_eq t
  blk_simp
  rw [after0_2]; frame_out
  obtain ⟨i, j, rfl⟩ := Soap.exists_ix3_one (n := 384) (m := 2816) y
  refine (pay_apply _ _ i j).trans (Finset.sum_congr (M := EReal) rfl fun k _ => ?_)
  congr 1
  · blk_simp [iblk0]
    refine congrArg (V c main_arg2) (Soap.ix3_ext ?_ ?_ ?_) <;> blk_simp [a0, a1, a2, o0, o1, o2]
  · blk_simp [iblk0]
    refine congrArg (V c main_arg1) (Soap.ix3_ext ?_ ?_ ?_) <;> blk_simp [b0, b1, b2, o0, o1, o2]

end Cert.KernelIdeal.T1
end
-- ==== Proof.KStrips.lean ====
/-
  THE SECOND CALL of the kernel (`moments`), its body: what it stores is eleven times the same strip of 256 columns.

  The body is unrolled over the eleven blocks of columns and the values of each strip come cut into terms of its own.
  `nrStrip`, `mCodeStrip`, `mScaleStrip`, `vCodeStrip`, `vScaleStrip` name the first strip's terms as functions of what
  a strip reads; `out6_eq` … `out10_eq` state that each of the five blocks the body leaves is made of these eleven times,
  at columns `256 n …` (the scales: at column `n`).
-/
module

public import proofs.«01_k».proof.Proof.Spec
public import proofs.«01_k».proof.Proof.Gen.KernelIdeal.Frame
public import Idealize.ShloMosaic.Lib.Pipeline.ValueKit

@[expose] public section

set_option maxRecDepth 16384

noncomputable section

namespace Cert.KernelIdeal.Moments

open Idealize.ShloMosaic Idealize.ShloMosaic.TcCoe Idealize.SL.Sem
open Cert.KernelIdeal Cert.KernelIdeal.Gen

variable {F : FTy → Type} [FloatOps F]

/-! ## The rectangles of strip `n` -/

/-- The strip of the right eigenbasis: columns `256 n …`. -/
abbrev qRect (n : Fin 11) : Rect S1x2816x2816 :=
  Rect.unit (s := S1x2816x2816) ![0, 0, 256 * n.val] S1x2816x256.size (by
    intro a; match a with
    | ⟨0, _⟩ => show 0 + 1 ≤ 1; omega
    | ⟨1, _⟩ => show 0 + 2816 ≤ 2816; omega
    | ⟨2, _⟩ => show 256 * n.val + 256 ≤ 2816; omega)

/-- The strip of a 2816-column block. -/
abbrev cRect (n : Fin 11) : Rect S1x384x2816 :=
  Rect.unit (s := S1x384x2816) ![0, 0, 256 * n.val] S1x384x256.size (by
    intro a; match a with
    | ⟨0, _⟩ => show 0 + 1 ≤ 1; omega
    | ⟨1, _⟩ => show 0 + 384 ≤ 384; omega
    | ⟨2, _⟩ => show 256 * n.val + 256 ≤ 2816; omega)

/-- The strip's column of a block of scales. -/
abbrev sRect (n : Fin 11) : Rect S1x384x11 :=
  Rect.unit (s := S1x384x11) ![0, 0, n.val] S1x384x1.size (by
    intro a; match a with
    | ⟨0, _⟩ => show 0 + 1 ≤ 1; omega
    | ⟨1, _⟩ => show 0 + 384 ≤ 384; omega
    | ⟨2, _⟩ => show n.val + 1 ≤ 11; omega)

/-- The whole block of the rotated gradient's rows. -/
abbrev xRect : Rect S1x384x2816 := r1_0

/-- The strips in the order of their stores, last first. -/
def strips : List (Fin 11) := [10, 9, 8, 7, 6, 5, 4, 3, 2, 1, 0]

variable (x0 : Vec F S1x384x2816 .bf16) (x1 : Vec F S1x2816x2816 .bf16) (x2 : Vec F S1x384x2816 .i8)
  (x3 : Vec F S1x384x11 .f32) (x4 : Vec F S1x384x2816 .i8) (x5 : Vec F S1x384x11 .f32)

/-! ## The terms of strip `n` -/

/-- The new first moment on strip `n`. -/
def mStrip (n : Fin 11) : FVec F S384x256 .f32 :=
  k1_pay5 (View.ld x0 xRect) (View.ld x1 (qRect n)) (View.ld x2 (cRect n)) (View.ld x3 (sRect n))

/-- The new second moment on strip `n`. -/
def vStrip (n : Fin 11) : FVec F S384x256 .f32 :=
  k1_pay6 (View.ld x0 xRect) (View.ld x1 (qRect n)) (View.ld x4 (cRect n)) (View.ld x5 (sRect n))

/-- The normalized direction on strip `n`. -/
def nrStrip (n : Fin 11) : FVec F S1x384x256 .bf16 :=
  k1_pay8 (k1_pay7 (View.ld x0 xRect) (View.ld x1 (qRect n)) (View.ld x2 (cRect n)) (View.ld x3 (sRect n))
    (View.ld x4 (cRect n)) (View.ld x5 (sRect n)))

/-- The first moment's codes on strip `n`. -/
def mCodeStrip (n : Fin 11) : IVec S1x384x256 8 := k1_pay14 (k1_pay13 (mStrip x0 x1 x2 x3 n))

/-- The first moment's scales of strip `n`. -/
def mScaleStrip (n : Fin 11) : FVec F S1x384x1 .f32 := k1_pay11 (mStrip x0 x1 x2 x3 n)

/-- The second moment's codes on strip `n`. -/
def vCodeStrip (n : Fin 11) : IVec S1x384x256 8 :=
  k1_pay15 (vStrip x0 x1 x4 x5 n) (k1_pay10 (vStrip x0 x1 x4 x5 n))

/-- The second moment's scales of strip `n`. -/
def vScaleStrip (n : Fin 11) : FVec F S1x384x1 .f32 := k1_pay12 (vStrip x0 x1 x4 x5 n)

/-! ## The five blocks -/

theorem out6_eq : out1_6 x0 x1 x2 x3 x4 x5
    = View.canon (strips.map fun n => ⟨cRect n, nrStrip x0 x1 x2 x3 x4 x5 n⟩) := rfl

theorem out7_eq : out1_7 x0 x1 x2 x3 x4 x5
    = View.canon (strips.map fun n => ⟨cRect n, mCodeStrip x0 x1 x2 x3 n⟩) := rfl

theorem out8_eq : out1_8 x0 x1 x2 x3 x4 x5
    = View.canon (strips.map fun n => ⟨sRect n, mScaleStrip x0 x1 x2 x3 n⟩) := rfl

theorem out9_eq : out1_9 x0 x1 x2 x3 x4 x5
    = View.canon (strips.map fun n => ⟨cRect n, vCodeStrip x0 x1 x4 x5 n⟩) := rfl

theorem out10_eq : out1_10 x0 x1 x2 x3 x4 x5
    = View.canon (strips.map fun n => ⟨sRect n, vScaleStrip x0 x1 x4 x5 n⟩) := rfl

end Cert.KernelIdeal.Moments
end
-- ==== Proof.KMomentsBody.lean ====
/-
  THE SECOND CALL of the kernel (`moments`), its body at coordinates: what the five blocks it leaves hold at an entry, in
  the terms of the mathematics (Spec.lean), from the entries of its six input blocks.
-/
module

public import proofs.«01_k».proof.Proof.KStrips

@[expose] public section

set_option maxRecDepth 16384

noncomputable section

namespace Cert.KernelIdeal.Moments

open Idealize.ShloMosaic Idealize.ShloMosaic.TcCoe Idealize.SL.Sem
open Cert.KernelIdeal Cert.KernelIdeal.Gen

/-! ## The first strip's terms at an entry -/

theorem pay5_apply (a : Vec Ideal S1x384x2816 .bf16) (b : Vec Ideal S1x2816x256 .bf16) (q : Vec Ideal S1x384x256 .i8)
    (s : Vec Ideal S1x384x1 .f32) (i : Fin 384) (k : Fin 256) :
    k1_pay5 a b q s (ix2 i k)
      = Soap.mNew (q (ix3 0 i k)) (s (ix3 0 i 0)) (∑ n : Fin 2816, a (ix3 0 i n) * b (ix3 0 n k)) := by
  unfold_payloads
  pointwise [dot_S384x2816_S2816x256_S384x256_1_0_0_1_n_n]
  rfl

theorem pay6_apply (a : Vec Ideal S1x384x2816 .bf16) (b : Vec Ideal S1x2816x256 .bf16) (q : Vec Ideal S1x384x256 .i8)
    (s : Vec Ideal S1x384x1 .f32) (i : Fin 384) (k : Fin 256) :
    k1_pay6 a b q s (ix2 i k)
      = Soap.vNew (q (ix3 0 i k)) (s (ix3 0 i 0)) (∑ n : Fin 2816, a (ix3 0 i n) * b (ix3 0 n k)) := by
  unfold_payloads
  pointwise [dot_S384x2816_S2816x256_S384x256_1_0_0_1_n_n]
  rfl

theorem pay8_apply (a : Vec Ideal S1x384x2816 .bf16) (b : Vec Ideal S1x2816x256 .bf16) (q : Vec Ideal S1x384x256 .i8)
    (s : Vec Ideal S1x384x1 .f32) (q' : Vec Ideal S1x384x256 .i8) (s' : Vec Ideal S1x384x1 .f32) (i : Fin 384) (k : Fin 256) :
    k1_pay8 (k1_pay7 a b q s q' s') (ix3 0 i k)
      = Soap.ratio (Soap.mNew (q (ix3 0 i k)) (s (ix3 0 i 0)) (∑ n : Fin 2816, a (ix3 0 i n) * b (ix3 0 n k)))
          (Soap.vNew (q' (ix3 0 i k)) (s' (ix3 0 i 0)) (∑ n : Fin 2816, a (ix3 0 i n) * b (ix3 0 n k))) := by
  unfold_payloads
  pointwise [dot_S384x2816_S2816x256_S384x256_1_0_0_1_n_n]
  rfl

theorem pay11_apply (v : FVec Ideal S384x256 .f32) (i : Fin 384) :
    k1_pay11 v (ix3 0 i 0)
      = Soap.scaleOf (Soap.blockMax fun k => FloatOps.absf (F := Ideal) (φ := .f32) (v (ix2 i k))) := by
  unfold_payloads
  pointwise
  rfl

theorem pay12_apply (v : FVec Ideal S384x256 .f32) (i : Fin 384) :
    k1_pay12 v (ix3 0 i 0) = Soap.scaleOf (Soap.blockMax fun k => v (ix2 i k)) := by
  unfold_payloads
  pointwise
  rfl

theorem pay14_apply (v : FVec Ideal S384x256 .f32) (i : Fin 384) (k : Fin 256) :
    k1_pay14 (k1_pay13 v) (ix3 0 i k)
      = Soap.codeOf 4294967169#32 (v (ix2 i k))
          (Soap.scaleOf (Soap.blockMax fun k => FloatOps.absf (F := Ideal) (φ := .f32) (v (ix2 i k)))) := by
  unfold_payloads
  pointwise
  rfl

theorem pay15_apply (v : FVec Ideal S384x256 .f32) (i : Fin 384) (k : Fin 256) :
    k1_pay15 v (k1_pay10 v) (ix3 0 i k)
      = Soap.codeOf 0#32 (v (ix2 i k)) (Soap.scaleOf (Soap.blockMax fun k => v (ix2 i k))) := by
  unfold_payloads
  pointwise
  rfl

/-! ## What a strip reads -/

theorem ld_q (x : Vec Ideal S1x2816x2816 .bf16) (n : Fin 11) (a : Fin 2816) (k : Fin 256) :
    View.ld x (qRect n) (ix3 0 a k) = x (ix3 0 a (Soap.col n k)) :=
  View.ld_unit_apply_of _ _ _ _ _ _ fun d => by
    match d with
    | ⟨0, _⟩ => rfl
    | ⟨1, _⟩ => show a.val = 0 + a.val; omega
    | ⟨2, _⟩ => show n.val * 256 + k.val = 256 * n.val + k.val; omega

theorem ld_c {e : EltTy} (x : Vec Ideal S1x384x2816 e) (n : Fin 11) (i : Fin 384) (k : Fin 256) :
    View.ld x (cRect n) (ix3 0 i k) = x (ix3 0 i (Soap.col n k)) :=
  View.ld_unit_apply_of _ _ _ _ _ _ fun d => by
    match d with
    | ⟨0, _⟩ => rfl
    | ⟨1, _⟩ => show i.val = 0 + i.val; omega
    | ⟨2, _⟩ => show n.val * 256 + k.val = 256 * n.val + k.val; omega

theorem ld_s (x : Vec Ideal S1x384x11 .f32) (n : Fin 11) (i : Fin 384) :
    View.ld x (sRect n) (ix3 0 i 0) = x (ix3 0 i n) :=
  View.ld_unit_apply_of _ _ _ _ _ _ fun d => by
    match d with
    | ⟨0, _⟩ => rfl
    | ⟨1, _⟩ => show i.val = 0 + i.val; omega
    | ⟨2, _⟩ => show n.val = n.val + 0; omega

theorem ld_x (x : Vec Ideal S1x384x2816 .bf16) : View.ld x xRect = x :=
  View.ld_unit_zero (funext fun a => by fin_cases a <;> rfl) _ _

/-! ## The moments of a block -/

variable (x0 : Vec Ideal S1x384x2816 .bf16) (x1 : Vec Ideal S1x2816x2816 .bf16) (x2 : Vec Ideal S1x384x2816 .i8)
  (x3 : Vec Ideal S1x384x11 .f32) (x4 : Vec Ideal S1x384x2816 .i8) (x5 : Vec Ideal S1x384x11 .f32)

/-- The new first moment at row `i` and column `j` of the block. -/
def mBlk (i : Fin 384) (j : Fin 2816) : EReal :=
  Soap.mNew (x2 (ix3 0 i j)) (x3 (ix3 0 i (Soap.blk j))) (∑ n : Fin 2816, x0 (ix3 0 i n) * x1 (ix3 0 n j))

/-- The new second moment. -/
def vBlk (i : Fin 384) (j : Fin 2816) : EReal :=
  Soap.vNew (x4 (ix3 0 i j)) (x5 (ix3 0 i (Soap.blk j))) (∑ n : Fin 2816, x0 (ix3 0 i n) * x1 (ix3 0 n j))

/-- The rotated gradient on strip `n`, from what the strip reads. -/
theorem rot_strip (n : Fin 11) (i : Fin 384) (k : Fin 256) :
    ∑ q : Fin 2816, View.ld x0 xRect (ix3 0 i q) * View.ld x1 (qRect n) (ix3 0 q k)
      = ∑ q : Fin 2816, x0 (ix3 0 i q) * x1 (ix3 0 q (Soap.col n k)) :=
  Finset.sum_congr (M := EReal) rfl fun q _ =>
    congrArg₂ (fun a b : EReal => a * b) (congrFun (ld_x x0) _) (ld_q x1 n q k)

theorem mNew_strip (n : Fin 11) (i : Fin 384) (k : Fin 256) :
    Soap.mNew (View.ld x2 (cRect n) (ix3 0 i k)) (View.ld x3 (sRect n) (ix3 0 i 0))
        (∑ q : Fin 2816, View.ld x0 xRect (ix3 0 i q) * View.ld x1 (qRect n) (ix3 0 q k))
      = mBlk x0 x1 x2 x3 i (Soap.col n k) := by
  unfold mBlk
  rw [Soap.blk_col]
  exact congr (congrArg₂ Soap.mNew (ld_c x2 n i k) (ld_s x3 n i)) (rot_strip x0 x1 n i k)

theorem vNew_strip (n : Fin 11) (i : Fin 384) (k : Fin 256) :
    Soap.vNew (View.ld x4 (cRect n) (ix3 0 i k)) (View.ld x5 (sRect n) (ix3 0 i 0))
        (∑ q : Fin 2816, View.ld x0 xRect (ix3 0 i q) * View.ld x1 (qRect n) (ix3 0 q k))
      = vBlk x0 x1 x4 x5 i (Soap.col n k) := by
  unfold vBlk
  rw [Soap.blk_col]
  exact congr (congrArg₂ Soap.vNew (ld_c x4 n i k) (ld_s x5 n i)) (rot_strip x0 x1 n i k)

theorem mStrip_apply (n : Fin 11) (i : Fin 384) (k : Fin 256) :
    mStrip x0 x1 x2 x3 n (ix2 i k) = mBlk x0 x1 x2 x3 i (Soap.col n k) :=
  (pay5_apply _ _ _ _ i k).trans (mNew_strip x0 x1 x2 x3 n i k)

theorem vStrip_apply (n : Fin 11) (i : Fin 384) (k : Fin 256) :
    vStrip x0 x1 x4 x5 n (ix2 i k) = vBlk x0 x1 x4 x5 i (Soap.col n k) :=
  (pay6_apply _ _ _ _ i k).trans (vNew_strip x0 x1 x4 x5 n i k)

theorem nrStrip_apply (n : Fin 11) (i : Fin 384) (k : Fin 256) :
    nrStrip x0 x1 x2 x3 x4 x5 n (ix3 0 i k)
      = Soap.ratio (mBlk x0 x1 x2 x3 i (Soap.col n k)) (vBlk x0 x1 x4 x5 i (Soap.col n k)) :=
  (pay8_apply _ _ _ _ _ _ i k).trans
    (congrArg₂ Soap.ratio (mNew_strip x0 x1 x2 x3 n i k) (vNew_strip x0 x1 x4 x5 n i k))

/-- The first moment's scale of block `n` of row `i`. -/
def mScl (i : Fin 384) (n : Fin 11) : EReal :=
  Soap.scaleOf (Soap.blockMax fun k => FloatOps.absf (F := Ideal) (φ := .f32) (mBlk x0 x1 x2 x3 i (Soap.col n k)))

/-- The second moment's. -/
def vScl (i : Fin 384) (n : Fin 11) : EReal :=
  Soap.scaleOf (Soap.blockMax fun k => vBlk x0 x1 x4 x5 i (Soap.col n k))

theorem mScaleStrip_apply (n : Fin 11) (i : Fin 384) :
    mScaleStrip x0 x1 x2 x3 n (ix3 0 i 0) = mScl x0 x1 x2 x3 i n := by
  unfold mScaleStrip mScl
  rw [pay11_apply]
  simp only [mStrip_apply]

theorem vScaleStrip_apply (n : Fin 11) (i : Fin 384) :
    vScaleStrip x0 x1 x4 x5 n (ix3 0 i 0) = vScl x0 x1 x4 x5 i n := by
  unfold vScaleStrip vScl
  rw [pay12_apply]
  simp only [vStrip_apply]

theorem mCodeStrip_apply (n : Fin 11) (i : Fin 384) (k : Fin 256) :
    mCodeStrip x0 x1 x2 x3 n (ix3 0 i k)
      = Soap.codeOf 4294967169#32 (mBlk x0 x1 x2 x3 i (Soap.col n k)) (mScl x0 x1 x2 x3 i n) := by
  unfold mCodeStrip mScl
  rw [pay14_apply]
  simp only [mStrip_apply]

theorem vCodeStrip_apply (n : Fin 11) (i : Fin 384) (k : Fin 256) :
    vCodeStrip x0 x1 x4 x5 n (ix3 0 i k)
      = Soap.codeOf 0#32 (vBlk x0 x1 x4 x5 i (Soap.col n k)) (vScl x0 x1 x4 x5 i n) := by
  unfold vCodeStrip vScl
  rw [pay15_apply]
  simp only [vStrip_apply]

/-! ## The five blocks at an entry -/

/-- A 2816-column block made of one strip per block of columns, read at an entry. -/
theorem canon_cols {e : EltTy} (G : Fin 384 → Fin 2816 → Elt Ideal e)
    (p : Fin 11 → (S1x384x256.Idx → Elt Ideal e)) (hp : ∀ n i k, p n (ix3 0 i k) = G i (Soap.col n k))
    (i : Fin 384) (j : Fin 2816) :
    View.canon (Val := Elt Ideal) (s := S1x384x2816) (strips.map fun n => ⟨cRect n, p n⟩) (ix3 0 i j) = G i j := by
  refine View.canon_apply_of_pieces (Val := Elt Ideal) (fun y : S1x384x2816.Idx => G (y 1) (y 2)) _ ?_ _ ?_
  · intro q hq
    obtain ⟨n, -, rfl⟩ := List.mem_map.mp hq
    intro x
    obtain ⟨i, k, rfl⟩ := Soap.exists_ix3_one (n := 384) (m := 256) x
    refine (hp n i k).trans (congrArg₂ G (Fin.ext ?_) (Fin.ext ?_))
    · show i.val = 0 + 1 * i.val; omega
    · show n.val * 256 + k.val = 256 * n.val + 1 * k.val; omega
  · refine ⟨⟨cRect (Soap.blk j), p (Soap.blk j)⟩, List.mem_map.mpr ⟨_, ?_, rfl⟩, ?_⟩
    · generalize Soap.blk j = n
      revert n; decide
    · rw [Rect.mem_set_unit]
      have hj := j.isLt
      intro a
      match a with
      | ⟨0, _⟩ => exact ⟨Nat.le_refl 0, Nat.zero_lt_one⟩
      | ⟨1, _⟩ => exact ⟨Nat.zero_le _, by show i.val < 0 + 384; omega⟩
      | ⟨2, _⟩ => exact ⟨by show 256 * (j.val / 256) ≤ j.val; omega, by show j.val < 256 * (j.val / 256) + 256; omega⟩

/-- A block of scales made of one column per strip, read at an entry. -/
theorem canon_scales (G : Fin 384 → Fin 11 → EReal)
    (p : Fin 11 → (S1x384x1.Idx → EReal)) (hp : ∀ n i, p n (ix3 0 i 0) = G i n)
    (i : Fin 384) (j : Fin 11) :
    View.canon (Val := Elt Ideal) (s := S1x384x11) (e := .f32) (strips.map fun n => ⟨sRect n, p n⟩) (ix3 0 i j) = G i j := by
  refine View.canon_apply_of_pieces (Val := Elt Ideal) (e := .f32) (fun y : S1x384x11.Idx => G (y 1) (y 2)) _ ?_ _ ?_
  · intro q hq
    obtain ⟨n, -, rfl⟩ := List.mem_map.mp hq
    intro x
    obtain ⟨i, k, rfl⟩ := Soap.exists_ix3_one (n := 384) (m := 1) x
    obtain rfl : k = 0 := Subsingleton.elim _ _
    refine (hp n i).trans (congrArg₂ G (Fin.ext ?_) (Fin.ext ?_))
    · show i.val = 0 + 1 * i.val; omega
    · show n.val = n.val + 1 * 0; omega
  · refine ⟨⟨sRect j, p j⟩, List.mem_map.mpr ⟨_, ?_, rfl⟩, ?_⟩
    · revert j; decide
    · rw [Rect.mem_set_unit]
      intro a
      match a with
      | ⟨0, _⟩ => exact ⟨Nat.le_refl 0, Nat.zero_lt_one⟩
      | ⟨1, _⟩ => exact ⟨Nat.zero_le _, by show i.val < 0 + 384; omega⟩
      | ⟨2, _⟩ => exact ⟨Nat.le_refl _, Nat.lt_succ_self _⟩

theorem out6_apply (i : Fin 384) (j : Fin 2816) : out1_6 x0 x1 x2 x3 x4 x5 (ix3 0 i j)
    = Soap.ratio (mBlk x0 x1 x2 x3 i j) (vBlk x0 x1 x4 x5 i j) := by
  rw [out6_eq]
  exact canon_cols (e := .bf16) (fun i j => Soap.ratio (mBlk x0 x1 x2 x3 i j) (vBlk x0 x1 x4 x5 i j)) _
    (nrStrip_apply x0 x1 x2 x3 x4 x5) i j

theorem out7_apply (i : Fin 384) (j : Fin 2816) : out1_7 x0 x1 x2 x3 x4 x5 (ix3 0 i j)
    = Soap.codeOf 4294967169#32 (mBlk x0 x1 x2 x3 i j) (mScl x0 x1 x2 x3 i (Soap.blk j)) := by
  rw [out7_eq]
  exact canon_cols (e := .i8)
    (fun i j => Soap.codeOf 4294967169#32 (mBlk x0 x1 x2 x3 i j) (mScl x0 x1 x2 x3 i (Soap.blk j))) _
    (fun n i k => (mCodeStrip_apply x0 x1 x2 x3 n i k).trans (by rw [Soap.blk_col])) i j

theorem out8_apply (i : Fin 384) (n : Fin 11) : out1_8 x0 x1 x2 x3 x4 x5 (ix3 0 i n) = mScl x0 x1 x2 x3 i n := by
  rw [out8_eq]
  exact canon_scales (mScl x0 x1 x2 x3) _ (mScaleStrip_apply x0 x1 x2 x3) i n

theorem out9_apply (i : Fin 384) (j : Fin 2816) : out1_9 x0 x1 x2 x3 x4 x5 (ix3 0 i j)
    = Soap.codeOf 0#32 (vBlk x0 x1 x4 x5 i j) (vScl x0 x1 x4 x5 i (Soap.blk j)) := by
  rw [out9_eq]
  exact canon_cols (e := .i8)
    (fun i j => Soap.codeOf 0#32 (vBlk x0 x1 x4 x5 i j) (vScl x0 x1 x4 x5 i (Soap.blk j))) _
    (fun n i k => (vCodeStrip_apply x0 x1 x4 x5 n i k).trans (by rw [Soap.blk_col])) i j

theorem out10_apply (i : Fin 384) (n : Fin 11) : out1_10 x0 x1 x2 x3 x4 x5 (ix3 0 i n) = vScl x0 x1 x4 x5 i n := by
  rw [out10_eq]
  exact canon_scales (vScl x0 x1 x4 x5) _ (vScaleStrip_apply x0 x1 x4 x5) i n

end Cert.KernelIdeal.Moments
end
-- ==== Proof.KMoments.lean ====
/-
  THE SECOND CALL of the kernel (`moments`): after it, its five result arrays are the normalized direction and the two
  moments' codes and scales, of the rotated gradient (the product of the first call's result with the right eigenbasis).
-/
module

public import proofs.«01_k».proof.Proof.KMomentsBody

@[expose] public section

set_option maxRecDepth 16384

noncomputable section

namespace Cert.KernelIdeal.Moments

open Idealize.ShloMosaic Idealize.ShloMosaic.TcCoe Idealize.SL.Sem
open Idealize.ShloMosaic.Pipeline (Dat Window)
open Cert.KernelIdeal Cert.KernelIdeal.Gen

variable (V : (c : Dev nD) → (b : Ref sig .tc) → Buf (Elt Ideal) ((c : Thread nD τ).loc b))

/-- Point `t` is layer `t / 7` and row block `t % 7`: the blocks each input window reads there. -/
theorem index_in : ∀ t : Fin grid1.N,
    (win1_0.index t 0 = t.val / 7 ∧ win1_0.index t 1 = t.val % 7 ∧ win1_0.index t 2 = 0)
    ∧ (win1_1.index t 0 = t.val / 7 ∧ win1_1.index t 1 = 0 ∧ win1_1.index t 2 = 0)
    ∧ (win1_2.index t 0 = t.val / 7 ∧ win1_2.index t 1 = t.val % 7 ∧ win1_2.index t 2 = 0)
    ∧ (win1_3.index t 0 = t.val / 7 ∧ win1_3.index t 1 = t.val % 7 ∧ win1_3.index t 2 = 0)
    ∧ (win1_4.index t 0 = t.val / 7 ∧ win1_4.index t 1 = t.val % 7 ∧ win1_4.index t 2 = 0)
    ∧ (win1_5.index t 0 = t.val / 7 ∧ win1_5.index t 1 = t.val % 7 ∧ win1_5.index t 2 = 0) := by
  decide +kernel

/-- The blocks each output window writes there. -/
theorem index_out : ∀ t : Fin grid1.N,
    (win1_6.index t 0 = t.val / 7 ∧ win1_6.index t 1 = t.val % 7 ∧ win1_6.index t 2 = 0)
    ∧ (win1_7.index t 0 = t.val / 7 ∧ win1_7.index t 1 = t.val % 7 ∧ win1_7.index t 2 = 0)
    ∧ (win1_8.index t 0 = t.val / 7 ∧ win1_8.index t 1 = t.val % 7 ∧ win1_8.index t 2 = 0)
    ∧ (win1_9.index t 0 = t.val / 7 ∧ win1_9.index t 1 = t.val % 7 ∧ win1_9.index t 2 = 0)
    ∧ (win1_10.index t 0 = t.val / 7 ∧ win1_10.index t 1 = t.val % 7 ∧ win1_10.index t 2 = 0) := by
  decide +kernel

variable (c : Dev nD)

/-- The rotated gradient. -/
abbrev GR : Soap.SW.Idx → EReal := Soap.rot (V c main_v0) (V c main_arg3)

/-- The new first moment. -/
abbrev M : Soap.SW.Idx → EReal := Soap.mArr (GR V c) (V c main_arg4) (V c main_arg5)

/-- The new second moment. -/
abbrev N : Soap.SW.Idx → EReal := Soap.vArr (GR V c) (V c main_arg6) (V c main_arg7)

/-- The block of rows of the first call's result at point `t`. -/
abbrev rows (t : Fin cfg1.N) : Vec Ideal S1x384x2816 .bf16 := iblk1 V c 0 t

/-- The layer's right eigenbasis at point `t`. -/
abbrev basis (t : Fin cfg1.N) : Vec Ideal S1x2816x2816 .bf16 := iblk1 V c 1 t

/-- The rotated gradient at point `t`, row `i` of the block and column `j`: the array's, at the row's index in it. -/
theorem rot_at (t : Fin cfg1.N) (b : Fin 3) (r : Fin 2688) (i : Fin 384) (hb : b.val = t.val / 7)
    (hr : r.val = t.val % 7 * 384 + i.val) (j : Fin 2816) :
    ∑ n : Fin 2816, rows V c t (ix3 0 i n) * basis V c t (ix3 0 n j) = GR V c (ix3 b r j) := by
  obtain ⟨⟨a0, a1, a2⟩, ⟨b0, b1, b2⟩, -⟩ := index_in t
  refine Finset.sum_congr (M := EReal) rfl fun k _ => congrArg₂ (fun a b : EReal => a * b) ?_ ?_
  · show iblk1 V c 0 t (ix3 0 i k) = _
    blk_simp [iblk1]
    refine congrArg (V c main_v0) (Soap.ix3_ext ?_ ?_ ?_) <;> blk_simp [a0, a1, a2, hb, hr]
    all_goals rfl
  · show iblk1 V c 1 t (ix3 0 k j) = _
    blk_simp [iblk1]
    refine congrArg (V c main_arg3) (Soap.ix3_ext ?_ ?_ ?_) <;> blk_simp [b0, b1, b2, hb]
    all_goals rfl

theorem m_at (t : Fin cfg1.N) (b : Fin 3) (r : Fin 2688) (i : Fin 384) (hb : b.val = t.val / 7)
    (hr : r.val = t.val % 7 * 384 + i.val) (j : Fin 2816) :
    mBlk (iblk1 V c 0 t) (iblk1 V c 1 t) (iblk1 V c 2 t) (iblk1 V c 3 t) i j = M V c (ix3 b r j) := by
  obtain ⟨-, -, ⟨a0, a1, a2⟩, ⟨b0, b1, b2⟩, -⟩ := index_in t
  refine congr (congrArg₂ Soap.mNew ?_ ?_) (rot_at V c t b r i hb hr j)
  · blk_simp [iblk1]
    refine congrArg (V c main_arg4) (Soap.ix3_ext ?_ ?_ ?_) <;> blk_simp [a0, a1, a2, hb, hr]
    all_goals rfl
  · blk_simp [iblk1]
    refine congrArg (V c main_arg5) (Soap.ix3_ext ?_ ?_ ?_) <;> blk_simp [b0, b1, b2, hb, hr]
    all_goals rfl

theorem n_at (t : Fin cfg1.N) (b : Fin 3) (r : Fin 2688) (i : Fin 384) (hb : b.val = t.val / 7)
    (hr : r.val = t.val % 7 * 384 + i.val) (j : Fin 2816) :
    vBlk (iblk1 V c 0 t) (iblk1 V c 1 t) (iblk1 V c 4 t) (iblk1 V c 5 t) i j = N V c (ix3 b r j) := by
  obtain ⟨-, -, -, -, ⟨a0, a1, a2⟩, ⟨b0, b1, b2⟩⟩ := index_in t
  refine congr (congrArg₂ Soap.vNew ?_ ?_) (rot_at V c t b r i hb hr j)
  · blk_simp [iblk1]
    refine congrArg (V c main_arg6) (Soap.ix3_ext ?_ ?_ ?_) <;> blk_simp [a0, a1, a2, hb, hr]
    all_goals rfl
  · blk_simp [iblk1]
    refine congrArg (V c main_arg7) (Soap.ix3_ext ?_ ?_ ?_) <;> blk_simp [b0, b1, b2, hb, hr]
    all_goals rfl

theorem ms_at (t : Fin cfg1.N) (b : Fin 3) (r : Fin 2688) (i : Fin 384) (hb : b.val = t.val / 7)
    (hr : r.val = t.val % 7 * 384 + i.val) (n : Fin 11) :
    mScl (iblk1 V c 0 t) (iblk1 V c 1 t) (iblk1 V c 2 t) (iblk1 V c 3 t) i n = Soap.mScale (M V c) (ix3 b r n) :=
  congrArg (fun f => Soap.scaleOf (Soap.blockMax f)) (funext fun k =>
    congrArg (FloatOps.absf (F := Ideal) (φ := .f32)) (m_at V c t b r i hb hr (Soap.col n k)))

theorem ns_at (t : Fin cfg1.N) (b : Fin 3) (r : Fin 2688) (i : Fin 384) (hb : b.val = t.val / 7)
    (hr : r.val = t.val % 7 * 384 + i.val) (n : Fin 11) :
    vScl (iblk1 V c 0 t) (iblk1 V c 1 t) (iblk1 V c 4 t) (iblk1 V c 5 t) i n = Soap.vScale (N V c) (ix3 b r n) :=
  congrArg (fun f => Soap.scaleOf (Soap.blockMax f)) (funext fun k => n_at V c t b r i hb hr (Soap.col n k))

/-! ## The five arrays -/

/-- Where the point's entry lies in a 2816-column result array: its layer, its row and the column itself. -/
theorem place (e : Soap.SW.Idx) (t : Fin cfg1.N) (i : Fin 384) (j : Fin 2816) (h0 : (e 0 : Nat) = t.val / 7)
    (h1 : (e 1 : Nat) = t.val % 7 * 384 + i.val) (h2 : (e 2 : Nat) = j.val) :
    ∃ (b : Fin 3) (r : Fin 2688), b.val = t.val / 7 ∧ r.val = t.val % 7 * 384 + i.val ∧ e = ix3 b r j :=
  ⟨e 0, e 1, h0, h1, Soap.ix3_ext rfl rfl h2⟩

/-- Likewise in an array of scales. -/
theorem placeS (e : Soap.SS.Idx) (t : Fin cfg1.N) (i : Fin 384) (j : Fin 11) (h0 : (e 0 : Nat) = t.val / 7)
    (h1 : (e 1 : Nat) = t.val % 7 * 384 + i.val) (h2 : (e 2 : Nat) = j.val) :
    ∃ (b : Fin 3) (r : Fin 2688), b.val = t.val / 7 ∧ r.val = t.val % 7 * 384 + i.val ∧ e = ix3 b r j :=
  ⟨e 0, e 1, h0, h1, Soap.ix3_ext rfl rfl h2⟩

/-- The array of normalized direction after the call. -/
theorem arr_nr : (dat1 V c).arrAt 6 cfg1.N = Soap.nrArr (M V c) (N V c) := by
  refine (dat1 V c).arrAt_eq_of_covers 6 _ (by decide +kernel) fun t _ y => ?_
  obtain ⟨⟨o0, o1, o2⟩, -⟩ := index_out t
  blk_simp
  rw [after1_6]
  obtain ⟨i, j, rfl⟩ := Soap.exists_ix3_one (n := 384) (m := 2816) y
  obtain ⟨b, r, hb, hr, he⟩ := place ((((View.whole main_v1_0).slice (win1_6.rect t)).emb (ix3 0 i j))) t i j
    (by blk_simp [o0]; rfl) (by blk_simp [o1]) (by blk_simp [o2])
  rw [he]
  exact (out6_apply _ _ _ _ _ _ i j).trans (congrArg₂ Soap.ratio (m_at V c t b r i hb hr j) (n_at V c t b r i hb hr j))

/-- The array of first moment's codes after the call. -/
theorem arr_mCode : (dat1 V c).arrAt 7 cfg1.N = Soap.mCode (M V c) := by
  refine (dat1 V c).arrAt_eq_of_covers 7 _ (by decide +kernel) fun t _ y => ?_
  obtain ⟨-, ⟨o0, o1, o2⟩, -⟩ := index_out t
  blk_simp
  rw [after1_7]
  obtain ⟨i, j, rfl⟩ := Soap.exists_ix3_one (n := 384) (m := 2816) y
  obtain ⟨b, r, hb, hr, he⟩ := place ((((View.whole main_v1_1).slice (win1_7.rect t)).emb (ix3 0 i j))) t i j
    (by blk_simp [o0]; rfl) (by blk_simp [o1]) (by blk_simp [o2])
  rw [he]
  exact (out7_apply _ _ _ _ _ _ i j).trans (congrArg₂ (Soap.codeOf 4294967169#32) (m_at V c t b r i hb hr j) (ms_at V c t b r i hb hr (Soap.blk j)))

/-- The array of first moment's scales after the call. -/
theorem arr_mScale : (dat1 V c).arrAt 8 cfg1.N = Soap.mScale (M V c) := by
  refine (dat1 V c).arrAt_eq_of_covers 8 _ (by decide +kernel) fun t _ y => ?_
  obtain ⟨-, -, ⟨o0, o1, o2⟩, -⟩ := index_out t
  blk_simp
  rw [after1_8]
  obtain ⟨i, j, rfl⟩ := Soap.exists_ix3_one (n := 384) (m := 11) y
  obtain ⟨b, r, hb, hr, he⟩ := placeS ((((View.whole main_v1_2).slice (win1_8.rect t)).emb (ix3 0 i j))) t i j
    (by blk_simp [o0]; rfl) (by blk_simp [o1]) (by blk_simp [o2])
  rw [he]
  exact (out8_apply _ _ _ _ _ _ i j).trans (ms_at V c t b r i hb hr j)

/-- The array of second moment's codes after the call. -/
theorem arr_vCode : (dat1 V c).arrAt 9 cfg1.N = Soap.vCode (N V c) := by
  refine (dat1 V c).arrAt_eq_of_covers 9 _ (by decide +kernel) fun t _ y => ?_
  obtain ⟨-, -, -, ⟨o0, o1, o2⟩, -⟩ := index_out t
  blk_simp
  rw [after1_9]
  obtain ⟨i, j, rfl⟩ := Soap.exists_ix3_one (n := 384) (m := 2816) y
  obtain ⟨b, r, hb, hr, he⟩ := place ((((View.whole main_v1_3).slice (win1_9.rect t)).emb (ix3 0 i j))) t i j
    (by blk_simp [o0]; rfl) (by blk_simp [o1]) (by blk_simp [o2])
  rw [he]
  exact (out9_apply _ _ _ _ _ _ i j).trans (congrArg₂ (Soap.codeOf 0#32) (n_at V c t b r i hb hr j) (ns_at V c t b r i hb hr (Soap.blk j)))

/-- The array of second moment's scales after the call. -/
theorem arr_vScale : (dat1 V c).arrAt 10 cfg1.N = Soap.vScale (N V c) := by
  refine (dat1 V c).arrAt_eq_of_covers 10 _ (by decide +kernel) fun t _ y => ?_
  obtain ⟨-, -, -, -, ⟨o0, o1, o2⟩⟩ := index_out t
  blk_simp
  rw [after1_10]
  obtain ⟨i, j, rfl⟩ := Soap.exists_ix3_one (n := 384) (m := 11) y
  obtain ⟨b, r, hb, hr, he⟩ := placeS ((((View.whole main_v1_4).slice (win1_10.rect t)).emb (ix3 0 i j))) t i j
    (by blk_simp [o0]; rfl) (by blk_simp [o1]) (by blk_simp [o2])
  rw [he]
  exact (out10_apply _ _ _ _ _ _ i j).trans (ns_at V c t b r i hb hr j)

end Cert.KernelIdeal.Moments
end
-- ==== Proof.KT2.lean ====
/-
  THE THIRD CALL of the kernel (`t2`): after it, its result array is the direction rotated back by the left eigenbasis.
-/
module

public import proofs.«01_k».proof.Proof.Spec
public import proofs.«01_k».proof.Proof.Gen.KernelIdeal.Frame
public import Idealize.ShloMosaic.Lib.Pipeline.ValueKit

@[expose] public section

set_option maxRecDepth 16384

noncomputable section

namespace Cert.KernelIdeal.T2

open Idealize.ShloMosaic Idealize.ShloMosaic.TcCoe Idealize.SL.Sem
open Idealize.ShloMosaic.Pipeline (Dat Window)
open Cert.KernelIdeal Cert.KernelIdeal.Gen

variable (V : (c : Dev nD) → (b : Ref sig .tc) → Buf (Elt Ideal) ((c : Thread nD τ).loc b))

/-- Point `t` is layer `t / 7` and row block `t % 7`: the blocks each window reads or writes there. -/
theorem index_eq : ∀ t : Fin grid2.N,
    (win2_0.index t 0 = t.val / 7 ∧ win2_0.index t 1 = t.val % 7 ∧ win2_0.index t 2 = 0)
    ∧ (win2_1.index t 0 = t.val / 7 ∧ win2_1.index t 1 = 0 ∧ win2_1.index t 2 = 0)
    ∧ (win2_2.index t 0 = t.val / 7 ∧ win2_2.index t 1 = t.val % 7 ∧ win2_2.index t 2 = 0) := by
  decide +kernel

/-- The block's payload at an entry: the contraction over the 2688 rows of the direction. -/
theorem pay_apply (x0 : Vec Ideal S1x384x2688 .bf16) (x1 : Vec Ideal S1x2688x2816 .bf16) (i : Fin 384) (j : Fin 2816) :
    k2_pay1 x0 x1 (ix3 0 i j) = ∑ k : Fin 2688, x0 (ix3 0 i k) * x1 (ix3 0 k j) := by
  unfold_payloads
  pointwise [dot_S384x2688_S2688x2816_S384x2816_1_0_0_1_n_n]

variable (c : Dev nD)

/-- What the result array is shown to hold. -/
abbrev G : Soap.SW.Idx → EReal := Soap.t2 (V c main_arg2) (V c main_v1_0)

/-- The call's result array. -/
theorem arr : (dat2 V c).arrAt 2 cfg2.N = G V c := by
  refine (dat2 V c).arrAt_eq_of_covers 2 _ (by decide +kernel) fun t _ y => ?_
  obtain ⟨⟨a0, a1, a2⟩, ⟨b0, b1, b2⟩, ⟨o0, o1, o2⟩⟩ := index_eq t
  blk_simp
  rw [after2_2]; frame_out
  obtain ⟨i, j, rfl⟩ := Soap.exists_ix3_one (n := 384) (m := 2816) y
  refine (pay_apply _ _ i j).trans (Finset.sum_congr (M := EReal) rfl fun k _ => ?_)
  congr 1
  · blk_simp [iblk2]
    refine congrArg (V c main_arg2) (Soap.ix3_ext ?_ ?_ ?_) <;> blk_simp [a0, a1, a2, o0, o1, o2]
  · blk_simp [iblk2]
    refine congrArg (V c main_v1_0) (Soap.ix3_ext ?_ ?_ ?_) <;> blk_simp [b0, b1, b2, o0, o1, o2]

end Cert.KernelIdeal.T2
end
-- ==== Proof.KUpdate.lean ====
/-
  THE FOURTH CALL of the kernel (`update`): after it, its two result arrays are the new weights and their change, at the
  step sizes the call is given (one per layer).
-/
module

public import proofs.«01_k».proof.Proof.Spec
public import proofs.«01_k».proof.Proof.Gen.KernelIdeal.Frame
public import Idealize.ShloMosaic.Lib.Pipeline.ValueKit

@[expose] public section

set_option maxRecDepth 16384

noncomputable section

namespace Cert.KernelIdeal.Update

open Idealize.ShloMosaic Idealize.ShloMosaic.TcCoe Idealize.SL.Sem
open Idealize.ShloMosaic.Pipeline (Dat Window)
open Cert.KernelIdeal Cert.KernelIdeal.Gen

variable (V : (c : Dev nD) → (b : Ref sig .tc) → Buf (Elt Ideal) ((c : Thread nD τ).loc b))

/-- Point `t` is layer `t / 14` and row block `t % 14`: the blocks each window reads or writes there. -/
theorem index_eq : ∀ t : Fin grid3.N,
    (win3_0.index t 0 = t.val / 14 ∧ win3_0.index t 1 = t.val % 14 ∧ win3_0.index t 2 = 0)
    ∧ (win3_1.index t 0 = t.val / 14 ∧ win3_1.index t 1 = 0 ∧ win3_1.index t 2 = 0)
    ∧ (win3_2.index t 0 = t.val / 14 ∧ win3_2.index t 1 = t.val % 14 ∧ win3_2.index t 2 = 0)
    ∧ (win3_3.index t 0 = t.val / 14 ∧ win3_3.index t 1 = 0 ∧ win3_3.index t 2 = 0)
    ∧ (win3_4.index t 0 = t.val / 14 ∧ win3_4.index t 1 = t.val % 14 ∧ win3_4.index t 2 = 0)
    ∧ (win3_5.index t 0 = t.val / 14 ∧ win3_5.index t 1 = t.val % 14 ∧ win3_5.index t 2 = 0) := by
  decide +kernel

/-- The block of the change, at an entry. -/
theorem pay2_apply (x0 : Vec Ideal S1x192x2816 .bf16) (x1 : Vec Ideal S1x2816x2816 .bf16) (s : EReal)
    (i : Fin 192) (j : Fin 2816) :
    k3_pay2 (F := Ideal) x0 x1 s (ix3 0 i j) = -s * ∑ k : Fin 2816, x0 (ix3 0 i k) * x1 (ix3 0 j k) := by
  unfold_payloads
  pointwise [dot_S192x2816_S2816x2816_S192x2816_1_1_0_0_n_n]
  rw [zero_sub]

/-- The block of the new weights, at an entry. -/
theorem pay3_apply (x0 : Vec Ideal S1x192x2816 .bf16) (x1 : Vec Ideal S1x2816x2816 .bf16) (s : EReal)
    (x2 : Vec Ideal S1x192x2816 .f32) (i : Fin 192) (j : Fin 2816) :
    k3_pay3 (F := Ideal) x0 x1 s x2 (ix3 0 i j)
      = x2 (ix3 0 i j) + -s * ∑ k : Fin 2816, x0 (ix3 0 i k) * x1 (ix3 0 j k) := by
  unfold_payloads
  pointwise [dot_S192x2816_S2816x2816_S192x2816_1_1_0_0_n_n]
  rw [zero_sub]

variable (c : Dev nD)

/-- The step sizes the call is given. -/
abbrev size : Fin 3 → EReal := fun b => V c main_v16 (ix3 b 0 0)

/-- What the second result array is shown to hold: the change of the weights. -/
abbrev D : Soap.SW.Idx → EReal := Soap.delta (size V c) (Soap.back (V c main_v2) (V c main_arg3))

/-- The scalar the body reads at point `t`: the step size of the point's layer. -/
theorem size_eq (t : Fin cfg3.N) (e : Soap.SW.Idx) (he : (e 0 : Nat) = t.val / 14) (h : 0 < S1x1x1.numel) :
    View.ld (iblk3 V c 3 t) (Rect.unit ![0, 0, 0] ![1, 1, 1] inb_S1x1x1_S1x1x1_0_0_0) (Shape.Idx.first h)
      = size V c (e 0) := by
  obtain ⟨-, -, -, ⟨s0, s1, s2⟩, -, -⟩ := index_eq t
  show iblk3 V c 3 t _ = _
  blk_simp [iblk3]
  refine congrArg (V c main_v16) (Soap.ix3_ext ?_ ?_ ?_) <;> blk_simp [s0, s1, s2, he]
  all_goals rfl

/-- The array of changes after the call. -/
theorem arr_delta : (dat3 V c).arrAt 5 cfg3.N = D V c := by
  refine (dat3 V c).arrAt_eq_of_covers 5 _ (by decide +kernel) fun t _ y => ?_
  obtain ⟨⟨a0, a1, a2⟩, ⟨b0, b1, b2⟩, -, -, -, ⟨o0, o1, o2⟩⟩ := index_eq t
  blk_simp
  rw [after3_5]; unfold outsAt3; dsimp only
  frame_out
  obtain ⟨i, j, rfl⟩ := Soap.exists_ix3_one (n := 192) (m := 2816) y
  refine (pay2_apply _ _ _ i j).trans
    (congrArg₂ (fun a b : EReal => -a * b) (size_eq V c t _ ?_ _)
      (Finset.sum_congr (M := EReal) rfl fun k _ => congrArg₂ (fun a b : EReal => a * b) ?_ ?_))
  · blk_simp [o0, o1, o2]; rfl
  · blk_simp [iblk3]
    refine congrArg (V c main_v2) (Soap.ix3_ext ?_ ?_ ?_) <;> blk_simp [a0, a1, a2, o0, o1, o2]
  · blk_simp [iblk3]
    refine congrArg (V c main_arg3) (Soap.ix3_ext ?_ ?_ ?_) <;> blk_simp [b0, b1, b2, o0, o1, o2]

/-- The new weights after the call. -/
theorem arr_new : (dat3 V c).arrAt 4 cfg3.N = Soap.wNew (V c main_arg0) (D V c) := by
  refine (dat3 V c).arrAt_eq_of_covers 4 _ (by decide +kernel) fun t _ y => ?_
  obtain ⟨⟨a0, a1, a2⟩, ⟨b0, b1, b2⟩, ⟨w0, w1, w2⟩, -, ⟨o0, o1, o2⟩, -⟩ := index_eq t
  blk_simp
  rw [after3_4]; unfold outsAt3; dsimp only
  frame_out
  obtain ⟨i, j, rfl⟩ := Soap.exists_ix3_one (n := 192) (m := 2816) y
  refine (pay3_apply _ _ _ _ i j).trans
    (congrArg₂ (fun a b : EReal => a + b) ?_ (congrArg₂ (fun a b : EReal => -a * b) (size_eq V c t _ ?_ _)
      (Finset.sum_congr (M := EReal) rfl fun k _ => congrArg₂ (fun a b : EReal => a * b) ?_ ?_)))
  · blk_simp [iblk3]
    refine congrArg (V c main_arg0) (Soap.ix3_ext ?_ ?_ ?_) <;> blk_simp [w0, w1, w2, o0, o1, o2]
  · blk_simp [o0, o1, o2]; rfl
  · blk_simp [iblk3]
    refine congrArg (V c main_v2) (Soap.ix3_ext ?_ ?_ ?_) <;> blk_simp [a0, a1, a2, o0, o1, o2]
  · blk_simp [iblk3]
    refine congrArg (V c main_arg3) (Soap.ix3_ext ?_ ?_ ?_) <;> blk_simp [b0, b1, b2, o0, o1, o2]

end Cert.KernelIdeal.Update
end
-- ==== Proof.KLstat.lean ====
/-
  THE FIFTH CALL of the kernel (`lstat`): after it, its result array is the old left statistic averaged with `g gᵀ`.
-/
module

public import proofs.«01_k».proof.Proof.Spec
public import proofs.«01_k».proof.Proof.Gen.KernelIdeal.Frame
public import Idealize.ShloMosaic.Lib.Pipeline.ValueKit

@[expose] public section

set_option maxRecDepth 16384

noncomputable section

namespace Cert.KernelIdeal.LStat

open Idealize.ShloMosaic Idealize.ShloMosaic.TcCoe Idealize.SL.Sem
open Idealize.ShloMosaic.Pipeline (Dat Window)
open Cert.KernelIdeal Cert.KernelIdeal.Gen

variable (V : (c : Dev nD) → (b : Ref sig .tc) → Buf (Elt Ideal) ((c : Thread nD τ).loc b))

/-- Point `t` is layer `t / 14` and row block `t % 14`: the blocks each window reads or writes there. -/
theorem index_eq : ∀ t : Fin grid4.N,
    (win4_0.index t 0 = t.val / 14 ∧ win4_0.index t 1 = t.val % 14 ∧ win4_0.index t 2 = 0)
    ∧ (win4_1.index t 0 = t.val / 14 ∧ win4_1.index t 1 = 0 ∧ win4_1.index t 2 = 0)
    ∧ (win4_2.index t 0 = t.val / 14 ∧ win4_2.index t 1 = t.val % 14 ∧ win4_2.index t 2 = 0)
    ∧ (win4_3.index t 0 = t.val / 14 ∧ win4_3.index t 1 = t.val % 14 ∧ win4_3.index t 2 = 0) := by
  decide +kernel

/-- The block's payload at an entry: the old statistic averaged with the contraction of the gradient with itself. -/
theorem pay_apply (x0 : Vec Ideal S1x192x2816 .bf16) (x1 : Vec Ideal S1x2688x2816 .bf16) (x2 : Vec Ideal S1x192x2688 .f32)
    (i : Fin 192) (j : Fin 2688) :
    k4_pay1 x0 x1 x2 (ix3 0 i j) = Soap.beta * x2 (ix3 0 i j) + Soap.beta' * ∑ k : Fin 2816, x0 (ix3 0 i k) * x1 (ix3 0 j k) := by
  unfold_payloads
  pointwise [dot_S192x2816_S2688x2816_S192x2688_1_1_0_0_n_n]

variable (c : Dev nD)

/-- What the result array is shown to hold. -/
abbrev G : Soap.SL.Idx → EReal := Soap.lNew (V c main_arg8) (V c main_arg1)

/-- The call's result array. -/
theorem arr : (dat4 V c).arrAt 3 cfg4.N = G V c := by
  refine (dat4 V c).arrAt_eq_of_covers 3 _ (by decide +kernel) fun t _ y => ?_
  obtain ⟨⟨a0, a1, a2⟩, ⟨b0, b1, b2⟩, ⟨s0, s1, s2⟩, ⟨o0, o1, o2⟩⟩ := index_eq t
  blk_simp
  rw [after4_3]; frame_out
  obtain ⟨i, j, rfl⟩ := Soap.exists_ix3_one (n := 192) (m := 2688) y
  refine (pay_apply _ _ _ i j).trans
    (congrArg₂ (fun a b : EReal => Soap.beta * a + Soap.beta' * b) ?_
      (Finset.sum_congr (M := EReal) rfl fun k _ => congrArg₂ (fun a b : EReal => a * b) ?_ ?_))
  · blk_simp [iblk4]
    refine congrArg (V c main_arg8) (Soap.ix3_ext ?_ ?_ ?_) <;> blk_simp [s0, s1, s2, o0, o1, o2]
  · blk_simp [iblk4]
    refine congrArg (V c main_arg1) (Soap.ix3_ext ?_ ?_ ?_) <;> blk_simp [a0, a1, a2, o0, o1, o2]
  · blk_simp [iblk4]
    refine congrArg (V c main_arg1) (Soap.ix3_ext ?_ ?_ ?_) <;> blk_simp [b0, b1, b2, o0, o1, o2]

end Cert.KernelIdeal.LStat
end
-- ==== Proof.KRstat.lean ====
/-
  THE SIXTH CALL of the kernel (`rstat`): after it, its result array is the old right statistic averaged with `gᵀ g`.
-/
module

public import proofs.«01_k».proof.Proof.Spec
public import proofs.«01_k».proof.Proof.Gen.KernelIdeal.Frame
public import Idealize.ShloMosaic.Lib.Pipeline.ValueKit

@[expose] public section

set_option maxRecDepth 16384

noncomputable section

namespace Cert.KernelIdeal.RStat

open Idealize.ShloMosaic Idealize.ShloMosaic.TcCoe Idealize.SL.Sem
open Idealize.ShloMosaic.Pipeline (Dat Window)
open Cert.KernelIdeal Cert.KernelIdeal.Gen

variable (V : (c : Dev nD) → (b : Ref sig .tc) → Buf (Elt Ideal) ((c : Thread nD τ).loc b))

/-- Point `t` is layer `t / 11` and row block `t % 11`: the blocks each window reads or writes there. -/
theorem index_eq : ∀ t : Fin grid5.N,
    (win5_0.index t 0 = t.val / 11 ∧ win5_0.index t 1 = 0 ∧ win5_0.index t 2 = t.val % 11)
    ∧ (win5_1.index t 0 = t.val / 11 ∧ win5_1.index t 1 = 0 ∧ win5_1.index t 2 = 0)
    ∧ (win5_2.index t 0 = t.val / 11 ∧ win5_2.index t 1 = t.val % 11 ∧ win5_2.index t 2 = 0)
    ∧ (win5_3.index t 0 = t.val / 11 ∧ win5_3.index t 1 = t.val % 11 ∧ win5_3.index t 2 = 0) := by
  decide +kernel

/-- The block's payload at an entry: the old statistic averaged with the contraction of the gradient with itself. -/
theorem pay_apply (x0 : Vec Ideal S1x2688x256 .bf16) (x1 : Vec Ideal S1x2688x2816 .bf16) (x2 : Vec Ideal S1x256x2816 .f32)
    (i : Fin 256) (j : Fin 2816) :
    k5_pay1 x0 x1 x2 (ix3 0 i j) = Soap.beta * x2 (ix3 0 i j) + Soap.beta' * ∑ k : Fin 2688, x0 (ix3 0 k i) * x1 (ix3 0 k j) := by
  unfold_payloads
  pointwise [dot_S2688x256_S2688x2816_S256x2816_0_0_1_1_n_n]

variable (c : Dev nD)

/-- What the result array is shown to hold. -/
abbrev G : Soap.SR.Idx → EReal := Soap.rNew (V c main_arg9) (V c main_arg1)

/-- The call's result array. -/
theorem arr : (dat5 V c).arrAt 3 cfg5.N = G V c := by
  refine (dat5 V c).arrAt_eq_of_covers 3 _ (by decide +kernel) fun t _ y => ?_
  obtain ⟨⟨a0, a1, a2⟩, ⟨b0, b1, b2⟩, ⟨s0, s1, s2⟩, ⟨o0, o1, o2⟩⟩ := index_eq t
  blk_simp
  rw [after5_3]; frame_out
  obtain ⟨i, j, rfl⟩ := Soap.exists_ix3_one (n := 256) (m := 2816) y
  refine (pay_apply _ _ _ i j).trans
    (congrArg₂ (fun a b : EReal => Soap.beta * a + Soap.beta' * b) ?_
      (Finset.sum_congr (M := EReal) rfl fun k _ => congrArg₂ (fun a b : EReal => a * b) ?_ ?_))
  · blk_simp [iblk5]
    refine congrArg (V c main_arg9) (Soap.ix3_ext ?_ ?_ ?_) <;> blk_simp [s0, s1, s2, o0, o1, o2]
  · blk_simp [iblk5]
    refine congrArg (V c main_arg1) (Soap.ix3_ext ?_ ?_ ?_) <;> blk_simp [a0, a1, a2, o0, o1, o2]
  · blk_simp [iblk5]
    refine congrArg (V c main_arg1) (Soap.ix3_ext ?_ ?_ ?_) <;> blk_simp [b0, b1, b2, o0, o1, o2]

end Cert.KernelIdeal.RStat
end
-- ==== Proof.KValue.lean ====
/-
  THE KERNEL'S RESULTS: what its eight result arrays hold after the last call, from the arguments (`Cert.KernelIdeal.Gen.W7`
  is the contents of every buffer then; the six calls and the step-size lines are read back one after the other).
-/
module

public import proofs.«01_k».proof.Proof.KT1
public import proofs.«01_k».proof.Proof.KMoments
public import proofs.«01_k».proof.Proof.KT2
public import proofs.«01_k».proof.Proof.KUpdate
public import proofs.«01_k».proof.Proof.KLstat
public import proofs.«01_k».proof.Proof.KRstat

@[expose] public section

set_option maxRecDepth 16384

noncomputable section

namespace Cert.KernelIdeal.Results

open Idealize.ShloMosaic Idealize.ShloMosaic.TcCoe Idealize.SL.Sem
open Idealize.ShloMosaic.Pipeline (Dat Window)
open Cert.KernelIdeal Cert.KernelIdeal.Gen

variable (m : (ℓ : Loc nD τ sig) → Buf (Elt Ideal) ℓ) (ρ : Dev nD → PrngReg) (c : Dev nD)

/-! ## What each call finds

An argument is never written, so every call finds in it what the run began with. -/

theorem v1_arg3 : V1 m ρ c main_arg3 = m ((c : Thread nD τ).loc main_arg3) := W1_args m ρ c main_arg3 (by decide)
theorem v1_arg4 : V1 m ρ c main_arg4 = m ((c : Thread nD τ).loc main_arg4) := W1_args m ρ c main_arg4 (by decide)
theorem v1_arg5 : V1 m ρ c main_arg5 = m ((c : Thread nD τ).loc main_arg5) := W1_args m ρ c main_arg5 (by decide)
theorem v1_arg6 : V1 m ρ c main_arg6 = m ((c : Thread nD τ).loc main_arg6) := W1_args m ρ c main_arg6 (by decide)
theorem v1_arg7 : V1 m ρ c main_arg7 = m ((c : Thread nD τ).loc main_arg7) := W1_args m ρ c main_arg7 (by decide)
theorem v2_arg2 : V2 m ρ c main_arg2 = m ((c : Thread nD τ).loc main_arg2) := W2_args m ρ c main_arg2 (by decide)
theorem v3_arg10 : V3 m ρ c main_arg10 = m ((c : Thread nD τ).loc main_arg10) := W3_args m ρ c main_arg10 (by decide)
theorem v4_arg0 : V4 m ρ c main_arg0 = m ((c : Thread nD τ).loc main_arg0) := W4_args m ρ c main_arg0 (by decide)
theorem v4_arg3 : V4 m ρ c main_arg3 = m ((c : Thread nD τ).loc main_arg3) := W4_args m ρ c main_arg3 (by decide)
theorem v5_arg1 : V5 m ρ c main_arg1 = m ((c : Thread nD τ).loc main_arg1) := W5_args m ρ c main_arg1 (by decide)
theorem v5_arg8 : V5 m ρ c main_arg8 = m ((c : Thread nD τ).loc main_arg8) := W5_args m ρ c main_arg8 (by decide)
theorem v6_arg1 : V6 m ρ c main_arg1 = m ((c : Thread nD τ).loc main_arg1) := W6_args m ρ c main_arg1 (by decide)
theorem v6_arg9 : V6 m ρ c main_arg9 = m ((c : Thread nD τ).loc main_arg9) := W6_args m ρ c main_arg9 (by decide)

/-- The moments call finds `QL^T G`. -/
theorem v1_v0 : V1 m ρ c main_v0 = Soap.t1 (m ((c : Thread nD τ).loc main_arg2)) (m ((c : Thread nD τ).loc main_arg1)) :=
  (W1_arr m ρ c 2).trans (T1.arr (V0 m ρ) c)

/-- The rotated gradient of the moments call. -/
theorem gr : Moments.GR (V1 m ρ) c = Soap.rot (Soap.t1 (m ((c : Thread nD τ).loc main_arg2)) (m ((c : Thread nD τ).loc main_arg1))) (m ((c : Thread nD τ).loc main_arg3)) := by
  unfold Moments.GR; rw [v1_v0, v1_arg3]

theorem mom1 : Moments.M (V1 m ρ) c = Soap.stepM (m ((c : Thread nD τ).loc main_arg1)) (m ((c : Thread nD τ).loc main_arg2)) (m ((c : Thread nD τ).loc main_arg3)) (m ((c : Thread nD τ).loc main_arg4)) (m ((c : Thread nD τ).loc main_arg5)) := by
  unfold Moments.M Soap.stepM; rw [gr, v1_arg4, v1_arg5]

theorem mom2 : Moments.N (V1 m ρ) c = Soap.stepV (m ((c : Thread nD τ).loc main_arg1)) (m ((c : Thread nD τ).loc main_arg2)) (m ((c : Thread nD τ).loc main_arg3)) (m ((c : Thread nD τ).loc main_arg6)) (m ((c : Thread nD τ).loc main_arg7)) := by
  unfold Moments.N Soap.stepV; rw [gr, v1_arg6, v1_arg7]

/-- The third call finds the preconditioned direction. -/
theorem v2_nr : V2 m ρ c main_v1_0 = Soap.nrArr (Soap.stepM (m ((c : Thread nD τ).loc main_arg1)) (m ((c : Thread nD τ).loc main_arg2)) (m ((c : Thread nD τ).loc main_arg3)) (m ((c : Thread nD τ).loc main_arg4)) (m ((c : Thread nD τ).loc main_arg5))) (Soap.stepV (m ((c : Thread nD τ).loc main_arg1)) (m ((c : Thread nD τ).loc main_arg2)) (m ((c : Thread nD τ).loc main_arg3)) (m ((c : Thread nD τ).loc main_arg6)) (m ((c : Thread nD τ).loc main_arg7))) := by
  refine (W2_arr m ρ c 6).trans ((Moments.arr_nr (V1 m ρ) c).trans ?_)
  rw [mom1, mom2]

/-- What the third call leaves, and the fourth finds. -/
theorem v4_v2 : V4 m ρ c main_v2 = Soap.t2 (m ((c : Thread nD τ).loc main_arg2)) (Soap.nrArr (Soap.stepM (m ((c : Thread nD τ).loc main_arg1)) (m ((c : Thread nD τ).loc main_arg2)) (m ((c : Thread nD τ).loc main_arg3)) (m ((c : Thread nD τ).loc main_arg4)) (m ((c : Thread nD τ).loc main_arg5))) (Soap.stepV (m ((c : Thread nD τ).loc main_arg1)) (m ((c : Thread nD τ).loc main_arg2)) (m ((c : Thread nD τ).loc main_arg3)) (m ((c : Thread nD τ).loc main_arg6)) (m ((c : Thread nD τ).loc main_arg7)))) := by
  refine (W4_of m ρ c main_v2 (by decide)).trans ((W3_arr m ρ c 2).trans ((T2.arr (V2 m ρ) c).trans ?_))
  unfold T2.G; rw [v2_arg2, v2_nr]

/-- The step sizes the fourth call finds, one per layer. -/
theorem v4_size (b : Fin 3) : Update.size (V4 m ρ) c b = Soap.stepSize ((m ((c : Thread nD τ).loc main_arg10)) (ix1 b)) := by
  have h : W3 m ρ c (Proc.devRef .tc main_arg10) = m ((c : Thread nD τ).loc main_arg10) := v3_arg10 m ρ c
  rw [← h]
  show StableHlo.after hostOps3 (W3 m ρ c) (Proc.devRef .tc main_v16) (ix3 b 0 0) = _
  after_results
  pointwise
  rfl

/-- The change of the weights computed by the fourth call. -/
theorem change : Update.D (V4 m ρ) c = Soap.stepDelta (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg10)) := by
  unfold Update.D Soap.stepDelta
  rw [v4_v2, v4_arg3, show Update.size (V4 m ρ) c = _ from funext (v4_size m ρ c)]

/-! ## The eight results -/

theorem w_new : W7 m ρ c main_v17_0 = Soap.wNew (m ((c : Thread nD τ).loc main_arg0)) (Soap.stepDelta (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg10))) := by
  refine (W7_of m ρ c main_v17_0 (by decide)).trans ((W6_of m ρ c main_v17_0 (by decide)).trans
    ((W5_arr m ρ c 4).trans ((Update.arr_new (V4 m ρ) c).trans ?_)))
  rw [v4_arg0, change]

theorem delta : W7 m ρ c main_v17_1 = Soap.stepDelta (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg10)) := by
  refine (W7_of m ρ c main_v17_1 (by decide)).trans ((W6_of m ρ c main_v17_1 (by decide)).trans
    ((W5_arr m ρ c 5).trans ((Update.arr_delta (V4 m ρ) c).trans ?_)))
  rw [change]

theorem l_new : W7 m ρ c main_v18 = Soap.lNew (m ((c : Thread nD τ).loc main_arg8)) (m ((c : Thread nD τ).loc main_arg1)) := by
  refine (W7_of m ρ c main_v18 (by decide)).trans ((W6_arr m ρ c 3).trans ((LStat.arr (V5 m ρ) c).trans ?_))
  unfold LStat.G; rw [v5_arg8, v5_arg1]

theorem r_new : W7 m ρ c main_v19 = Soap.rNew (m ((c : Thread nD τ).loc main_arg9)) (m ((c : Thread nD τ).loc main_arg1)) := by
  refine (W7_arr m ρ c 3).trans ((RStat.arr (V6 m ρ) c).trans ?_)
  unfold RStat.G; rw [v6_arg9, v6_arg1]

/-- What the moments call leaves in a buffer no later call writes is there at the end. -/
theorem keep (r : Ref sig .tc)
    (h5 : ∀ w : Fin cfg5.W, Pipeline.arrRef spec5 w = r → (cfg5.win w).isOut = false)
    (h4 : ∀ w : Fin cfg4.W, Pipeline.arrRef spec4 w = r → (cfg4.win w).isOut = false)
    (h3 : ∀ w : Fin cfg3.W, Pipeline.arrRef spec3 w = r → (cfg3.win w).isOut = false)
    (hh : r ∉ hostOps3_W)
    (h2 : ∀ w : Fin cfg2.W, Pipeline.arrRef spec2 w = r → (cfg2.win w).isOut = false) :
    W7 m ρ c r = W2 m ρ c r :=
  (W7_of m ρ c r h5).trans ((W6_of m ρ c r h4).trans ((W5_of m ρ c r h3).trans ((W4_of m ρ c r hh).trans
    (W3_of m ρ c r h2))))

theorem m_codes : W7 m ρ c main_v1_1 = Soap.mCode (Soap.stepM (m ((c : Thread nD τ).loc main_arg1)) (m ((c : Thread nD τ).loc main_arg2)) (m ((c : Thread nD τ).loc main_arg3)) (m ((c : Thread nD τ).loc main_arg4)) (m ((c : Thread nD τ).loc main_arg5))) := by
  refine (keep m ρ c main_v1_1 (by decide) (by decide) (by decide) (by decide) (by decide)).trans
    ((W2_arr m ρ c 7).trans ((Moments.arr_mCode (V1 m ρ) c).trans ?_))
  rw [mom1]

theorem m_scales : W7 m ρ c main_v1_2 = Soap.mScale (Soap.stepM (m ((c : Thread nD τ).loc main_arg1)) (m ((c : Thread nD τ).loc main_arg2)) (m ((c : Thread nD τ).loc main_arg3)) (m ((c : Thread nD τ).loc main_arg4)) (m ((c : Thread nD τ).loc main_arg5))) := by
  refine (keep m ρ c main_v1_2 (by decide) (by decide) (by decide) (by decide) (by decide)).trans
    ((W2_arr m ρ c 8).trans ((Moments.arr_mScale (V1 m ρ) c).trans ?_))
  rw [mom1]

theorem v_codes : W7 m ρ c main_v1_3 = Soap.vCode (Soap.stepV (m ((c : Thread nD τ).loc main_arg1)) (m ((c : Thread nD τ).loc main_arg2)) (m ((c : Thread nD τ).loc main_arg3)) (m ((c : Thread nD τ).loc main_arg6)) (m ((c : Thread nD τ).loc main_arg7))) := by
  refine (keep m ρ c main_v1_3 (by decide) (by decide) (by decide) (by decide) (by decide)).trans
    ((W2_arr m ρ c 9).trans ((Moments.arr_vCode (V1 m ρ) c).trans ?_))
  rw [mom2]

theorem v_scales : W7 m ρ c main_v1_4 = Soap.vScale (Soap.stepV (m ((c : Thread nD τ).loc main_arg1)) (m ((c : Thread nD τ).loc main_arg2)) (m ((c : Thread nD τ).loc main_arg3)) (m ((c : Thread nD τ).loc main_arg6)) (m ((c : Thread nD τ).loc main_arg7))) := by
  refine (keep m ρ c main_v1_4 (by decide) (by decide) (by decide) (by decide) (by decide)).trans
    ((W2_arr m ρ c 10).trans ((Moments.arr_vScale (V1 m ρ) c).trans ?_))
  rw [mom2]

end Cert.KernelIdeal.Results
end
-- ==== Proof.KRun.lean ====
/-
  THE KERNEL'S RUN WITH ITS RESULTS: every execution of the kernel's program terminates, nothing faulting, and each final
  state has every buffer at the contents after the last call; so the eight results are those of `Cert.KernelIdeal.Results`
  and the arguments are as launched.
-/
module

public import proofs.«01_k».proof.Proof.KValue

@[expose] public section

set_option maxRecDepth 16384

noncomputable section

namespace Cert.KernelIdeal.Results

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every execution terminates with the buffers at their contents after the last call (the launch over the program's
    segments, as for the generated frame, with every buffer read at the end and not only the arguments). -/
theorem run_contents : θ_run defs (onTc (τ := τ) (main (F := Ideal))) ⟨m, fun _ => 0, ρ⟩
    (fun r => ∀ c : Dev nD, ∀ b ∈ Pipeline.ucRefs τ sig, r.2.mem (((c : Thread nD τ)).1, b) = W7 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h _ => h)

/-- Every execution terminates with the eight results at the step's values and the arguments as launched. -/
theorem run_results : θ_run defs (onTc (τ := τ) (main (F := Ideal))) ⟨m, fun _ => 0, ρ⟩ (fun r => ∀ c : Dev nD,
      r.2.mem ((c.tc : Thread nD τ).loc main_v17_0) = Soap.wNew (m ((c.tc : Thread nD τ).loc main_arg0)) (Soap.stepDelta (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg10)))
      ∧ r.2.mem ((c.tc : Thread nD τ).loc main_v17_1) = Soap.stepDelta (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg10))
      ∧ r.2.mem ((c.tc : Thread nD τ).loc main_v18) = Soap.lNew (m ((c.tc : Thread nD τ).loc main_arg8)) (m ((c.tc : Thread nD τ).loc main_arg1))
      ∧ r.2.mem ((c.tc : Thread nD τ).loc main_v19) = Soap.rNew (m ((c.tc : Thread nD τ).loc main_arg9)) (m ((c.tc : Thread nD τ).loc main_arg1))
      ∧ r.2.mem ((c.tc : Thread nD τ).loc main_v1_1) = Soap.mCode (Soap.stepM (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)))
      ∧ r.2.mem ((c.tc : Thread nD τ).loc main_v1_2) = Soap.mScale (Soap.stepM (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)))
      ∧ r.2.mem ((c.tc : Thread nD τ).loc main_v1_3) = Soap.vCode (Soap.stepV (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7)))
      ∧ r.2.mem ((c.tc : Thread nD τ).loc main_v1_4) = Soap.vScale (Soap.stepV (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (run_contents m ρ).mono fun r h c =>
    ⟨(h c _ (mem_uc main_v17_0 (by decide))).trans (w_new m ρ c),
     (h c _ (mem_uc main_v17_1 (by decide))).trans (delta m ρ c),
     (h c _ (mem_uc main_v18 (by decide))).trans (l_new m ρ c),
     (h c _ (mem_uc main_v19 (by decide))).trans (r_new m ρ c),
     (h c _ (mem_uc main_v1_1 (by decide))).trans (m_codes m ρ c),
     (h c _ (mem_uc main_v1_2 (by decide))).trans (m_scales m ρ c),
     (h c _ (mem_uc main_v1_3 (by decide))).trans (v_codes m ρ c),
     (h c _ (mem_uc main_v1_4 (by decide))).trans (v_scales m ρ c),
     (h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c),
     (h c _ (mem_uc main_arg6 (by decide))).trans (W7_main_arg6 m ρ c),
     (h c _ (mem_uc main_arg7 (by decide))).trans (W7_main_arg7 m ρ c),
     (h c _ (mem_uc main_arg8 (by decide))).trans (W7_main_arg8 m ρ c),
     (h c _ (mem_uc main_arg9 (by decide))).trans (W7_main_arg9 m ρ c),
     (h c _ (mem_uc main_arg10 (by decide))).trans (W7_main_arg10 m ρ c)⟩

end Cert.KernelIdeal.Results
end
-- ==== Proof.RBlocks.lean ====
/-
  BLOCKS OF COLUMNS, at any sizes: an array of rows of `N = n2 * n3` columns read as `n2` blocks of `n3`, as the reference
  decodes and encodes the moments. Each lemma reads one array expression at an entry: a decoded array, the scales, the codes.
-/
module

public import proofs.«01_k».proof.Proof.Spec
public import Idealize.ShloMosaic.Lib.Pipeline.Value

@[expose] public section

set_option maxRecDepth 16384

noncomputable section

namespace Soap.Blocks

open Idealize.ShloMosaic

variable {n0 n1 n2 n3 N : ℕ}

/-- Two arrays of rank three are equal when they agree at every triple. -/
theorem funext_ix3 {α : Type} {f g : (⟨3, ![n0, n1, N]⟩ : Shape).Idx → α} (h : ∀ b i j, f (ix3 b i j) = g (ix3 b i j)) :
    f = g := funext fun y => by
  have e : y = ix3 (y 0) (y 1) (y 2) := Soap.ix3_ext rfl rfl rfl
  rw [e]; exact h _ _ _

/-- Column `j` of a row is entry `k` of block `q` when `j = q * n3 + k`: the array in blocks read as rows. -/
theorem flat_at {α : Type} (x : (⟨4, ![n0, n1, n2, n3]⟩ : Shape).Idx → α)
    (h : (⟨4, ![n0, n1, n2, n3]⟩ : Shape).ShapeCasts ⟨3, ![n0, n1, N]⟩) (b : Fin n0) (i : Fin n1) (j : Fin N) (q : Fin n2)
    (k : Fin n3) (hN : N = n2 * n3) (hj : j.val = q.val * n3 + k.val) :
    shapeCast ⟨3, ![n0, n1, N]⟩ x h (ix3 b i j) = x (ix4 b i q k) := by
  subst hN
  refine shapeCast_apply x h _ _ ?_
  rw [Shape.rowMajor_val_three, Shape.rowMajor_val_four]
  show ((b.val * n1 + i.val) * n2 + q.val) * n3 + k.val = (b.val * n1 + i.val) * (n2 * n3) + j.val
  rw [hj]; ring

/-- The rows read as blocks. -/
theorem block_at {α : Type} (x : (⟨3, ![n0, n1, N]⟩ : Shape).Idx → α)
    (h : (⟨3, ![n0, n1, N]⟩ : Shape).ShapeCasts ⟨4, ![n0, n1, n2, n3]⟩) (b : Fin n0) (i : Fin n1) (j : Fin N) (q : Fin n2)
    (k : Fin n3) (hN : N = n2 * n3) (hj : j.val = q.val * n3 + k.val) :
    shapeCast ⟨4, ![n0, n1, n2, n3]⟩ x h (ix4 b i q k) = x (ix3 b i j) := by
  subst hN
  refine shapeCast_apply x h _ _ ?_
  rw [Shape.rowMajor_val_three, Shape.rowMajor_val_four]
  show (b.val * n1 + i.val) * (n2 * n3) + j.val = ((b.val * n1 + i.val) * n2 + q.val) * n3 + k.val
  rw [hj]; ring

/-- One value per block, spread over the block. -/
theorem spread_at {α : Type} (s : (⟨3, ![n0, n1, n2]⟩ : Shape).Idx → α)
    (h : (⟨3, ![n0, n1, n2]⟩ : Shape).ShapeCasts ⟨4, ![n0, n1, n2, 1]⟩)
    (h' : (⟨4, ![n0, n1, n2, 1]⟩ : Shape).Broadcasts ⟨4, ![n0, n1, n2, n3]⟩) (b : Fin n0) (i : Fin n1) (q : Fin n2)
    (k : Fin n3) :
    broadcastTo ⟨4, ![n0, n1, n2, n3]⟩ (shapeCast ⟨4, ![n0, n1, n2, 1]⟩ s h) h' (ix4 b i q k) = s (ix3 b i q) := by
  refine (broadcastTo_apply _ h' (ix4 b i q k) (ix4 b i q 0) fun a => ?_).trans (shapeCast_apply s h _ (ix3 b i q) ?_)
  · fin_cases a
    · show b.val = if n0 = 1 then 0 else b.val
      split <;> omega
    · show i.val = if n1 = 1 then 0 else i.val
      split <;> omega
    · show q.val = if n2 = 1 then 0 else q.val
      split <;> omega
    · rfl
  · rw [Shape.rowMajor_val_three, Shape.rowMajor_val_four]
    show (b.val * n1 + i.val) * n2 + q.val = ((b.val * n1 + i.val) * n2 + q.val) * 1 + 0
    ring

/-- The decoded moment at an entry: its code times its block's scale. -/
theorem decode_at (codes : (⟨3, ![n0, n1, N]⟩ : Shape).Idx → BitVec 8) (s : FVec Ideal ⟨3, ![n0, n1, n2]⟩ .f32)
    (h1 : (⟨3, ![n0, n1, N]⟩ : Shape).ShapeCasts ⟨4, ![n0, n1, n2, n3]⟩)
    (h2 : (⟨3, ![n0, n1, n2]⟩ : Shape).ShapeCasts ⟨4, ![n0, n1, n2, 1]⟩)
    (h3 : (⟨4, ![n0, n1, n2, 1]⟩ : Shape).Broadcasts ⟨4, ![n0, n1, n2, n3]⟩)
    (h4 : (⟨4, ![n0, n1, n2, n3]⟩ : Shape).ShapeCasts ⟨3, ![n0, n1, N]⟩)
    (b : Fin n0) (i : Fin n1) (j : Fin N) (q : Fin n2) (k : Fin n3) (hN : N = n2 * n3) (hj : j.val = q.val * n3 + k.val) :
    shapeCast ⟨3, ![n0, n1, N]⟩ (mulf (sitofp (F := Ideal) .f32 (shapeCast ⟨4, ![n0, n1, n2, n3]⟩ codes h1))
        (broadcastTo ⟨4, ![n0, n1, n2, n3]⟩ (shapeCast ⟨4, ![n0, n1, n2, 1]⟩ s h2) h3)) h4 (ix3 b i j)
      = FloatOps.sitofp (F := Ideal) .f32 (codes (ix3 b i j)) * s (ix3 b i q) := by
  rw [flat_at _ h4 b i j q k hN hj]
  refine congrArg₂ (fun a b : EReal => a * b) ?_ (spread_at s h2 h3 b i q k)
  exact congrArg (FloatOps.sitofp (F := Ideal) .f32) (block_at codes h1 b i j q k hN hj)

/-- The largest value of a block. -/
theorem max_at (v : FVec Ideal ⟨4, ![n0, n1, n2, n3]⟩ .f32)
    (h : (⟨4, ![n0, n1, n2, n3]⟩ : Shape).Reduces [3] ⟨3, ![n0, n1, n2]⟩) (hφ hacc) (b : Fin n0) (i : Fin n1) (q : Fin n2) :
    multiReduction .maximumf [3] ⟨3, ![n0, n1, n2]⟩ v 0xFF800000#32 h hφ hacc (ix3 b i q)
      = Finset.univ.fold max (Ideal.ofBits .f32 0xFF800000#32) fun k : Fin n3 => v (ix4 b i q k) := by
  pointwise

/-- A block's scale from the largest values `a` of the blocks. -/
theorem scale_at (a : FVec Ideal ⟨3, ![n0, n1, n2]⟩ .f32) (b : Fin n0) (i : Fin n1) (q : Fin n2) :
    select (cmpf .oeq a (broadcast ⟨3, ![n0, n1, n2]⟩ (Scalar.ofBits (F := Ideal) .f32 0x00000000#32)))
        (broadcast ⟨3, ![n0, n1, n2]⟩ (Scalar.ofBits (F := Ideal) .f32 0x3F800000#32))
        (divf a (broadcast ⟨3, ![n0, n1, n2]⟩ (Scalar.ofBits (F := Ideal) .f32 0x42FE0000#32))) (ix3 b i q)
      = scaleOf (a (ix3 b i q)) := by
  pointwise
  rfl

/-- The codes of a moment at an entry: the value `v` at its block's scale, rounded, clipped and converted. -/
theorem code_at (lo : BitVec 32) (v : FVec Ideal ⟨4, ![n0, n1, n2, n3]⟩ .f32) (s : FVec Ideal ⟨3, ![n0, n1, n2]⟩ .f32)
    (h2 : (⟨3, ![n0, n1, n2]⟩ : Shape).ShapeCasts ⟨4, ![n0, n1, n2, 1]⟩)
    (h3 : (⟨4, ![n0, n1, n2, 1]⟩ : Shape).Broadcasts ⟨4, ![n0, n1, n2, n3]⟩)
    (h4 : (⟨4, ![n0, n1, n2, n3]⟩ : Shape).ShapeCasts ⟨3, ![n0, n1, N]⟩)
    (b : Fin n0) (i : Fin n1) (j : Fin N) (q : Fin n2) (k : Fin n3) (hN : N = n2 * n3) (hj : j.val = q.val * n3 + k.val) :
    shapeCast ⟨3, ![n0, n1, N]⟩ (fptosi (F := Ideal) (φ := .f32) 8
        (minimumf (broadcast ⟨4, ![n0, n1, n2, n3]⟩ (Scalar.sitofp (F := Ideal) .f32 127#32))
          (maximumf (broadcast ⟨4, ![n0, n1, n2, n3]⟩ (Scalar.sitofp (F := Ideal) .f32 lo))
            (roundeven (divf v (broadcastTo ⟨4, ![n0, n1, n2, n3]⟩ (shapeCast ⟨4, ![n0, n1, n2, 1]⟩ s h2) h3)))))) h4
        (ix3 b i j)
      = codeOf lo (v (ix4 b i q k)) (s (ix3 b i q)) := by
  rw [flat_at _ h4 b i j q k hN hj, ← spread_at s h2 h3 b i q k]
  rfl

end Soap.Blocks
end
-- ==== Proof.RMoments.lean ====
/-
  THE REFERENCE'S MOMENTS, ENCODED AND DECODED: what each value of the reference's gridless call is, on whole arrays. The call
  reads the moments in blocks of 256 columns (`Soap.Blocks` at the sizes 3, 2688, 11, 256).
-/
module

public import proofs.«01_k».proof.Proof.RBlocks
public import proofs.«01_k».proof.Proof.Gen.ReferenceIdeal.Skeleton

@[expose] public section

set_option maxRecDepth 16384

noncomputable section

namespace Cert.ReferenceIdeal.Moments

open Idealize.ShloMosaic
open Cert.ReferenceIdeal Cert.ReferenceIdeal.Gen
open Soap (blk col)

/-- The place of column `j` in its block. -/
def off (j : Fin 2816) : Fin 256 := ⟨j % 256, by omega⟩

theorem sizes : 2816 = 11 * 256 := by norm_num

theorem split (j : Fin 2816) : j.val = (blk j).val * 256 + (off j).val := (Nat.div_add_mod' j.val 256).symm

/-- The rotated gradient enters as it is. -/
theorem pay2 (g : Vec Ideal S3x2688x2816 .f32) : k0_pay2 g = g := by
  unfold k0_pay2; exact shapeCast_self _ _

/-- The new first moment. -/
theorem pay3 (g : Vec Ideal S3x2688x2816 .f32) (codes : Vec Ideal S3x2688x2816 .i8) (s : Vec Ideal S3x2688x11 .f32) :
    k0_pay3 g codes s = Soap.mArr g codes s := by
  refine Soap.Blocks.funext_ix3 fun b i j => ?_
  unfold k0_pay3
  rw [pay2]
  exact congrArg (fun a : EReal => Soap.beta * a + Soap.beta' * g (ix3 b i j))
    (Soap.Blocks.decode_at codes s _ _ _ _ b i j (blk j) (off j) sizes (split j))

/-- The new second moment. -/
theorem pay4 (g : Vec Ideal S3x2688x2816 .f32) (codes : Vec Ideal S3x2688x2816 .i8) (s : Vec Ideal S3x2688x11 .f32) :
    k0_pay4 g codes s = Soap.vArr g codes s := by
  refine Soap.Blocks.funext_ix3 fun b i j => ?_
  unfold k0_pay4
  rw [pay2]
  exact congrArg (fun a : EReal => Soap.beta * a + Soap.beta' * g (ix3 b i j) * g (ix3 b i j))
    (Soap.Blocks.decode_at codes s _ _ _ _ b i j (blk j) (off j) sizes (split j))

/-- The normalized direction. -/
theorem pay5 (g : Vec Ideal S3x2688x2816 .f32) (mc : Vec Ideal S3x2688x2816 .i8) (ms : Vec Ideal S3x2688x11 .f32)
    (vc : Vec Ideal S3x2688x2816 .i8) (vs : Vec Ideal S3x2688x11 .f32) :
    k0_pay5 g mc ms vc vs = Soap.nrArr (Soap.mArr g mc ms) (Soap.vArr g vc vs) := by
  refine Soap.Blocks.funext_ix3 fun b i j => ?_
  unfold k0_pay5
  rw [pay3, pay4]
  rfl

/-- The first moment in blocks. -/
theorem pay6_at (g : Vec Ideal S3x2688x2816 .f32) (codes : Vec Ideal S3x2688x2816 .i8) (s : Vec Ideal S3x2688x11 .f32)
    (b : Fin 3) (i : Fin 2688) (j : Fin 2816) (q : Fin 11) (k : Fin 256) (hj : j.val = q.val * 256 + k.val) :
    k0_pay6 g codes s (ix4 b i q k) = Soap.mArr g codes s (ix3 b i j) := by
  unfold k0_pay6
  rw [pay3]
  exact Soap.Blocks.block_at _ _ b i j q k sizes hj

/-- The first moment's new scales, from the moment in blocks. -/
theorem pay7_at (x : FVec Ideal S3x2688x11x256 .f32) (b : Fin 3) (i : Fin 2688) (q : Fin 11) :
    k0_pay7 x (ix3 b i q)
      = Soap.scaleOf (Soap.blockMax fun k => FloatOps.absf (F := Ideal) (φ := .f32) (x (ix4 b i q k))) := by
  unfold k0_pay7
  exact (Soap.Blocks.scale_at _ b i q).trans (congrArg Soap.scaleOf (Soap.Blocks.max_at (absf x) _ _ _ b i q))

/-- The first moment's new scales. -/
theorem scales_m (g : Vec Ideal S3x2688x2816 .f32) (codes : Vec Ideal S3x2688x2816 .i8) (s : Vec Ideal S3x2688x11 .f32) :
    k0_pay7 (k0_pay6 g codes s) = Soap.mScale (Soap.mArr g codes s) := by
  refine Soap.Blocks.funext_ix3 fun b i q => ?_
  rw [pay7_at]
  exact congrArg Soap.scaleOf (congrArg Soap.blockMax (funext fun k =>
    congrArg (FloatOps.absf (F := Ideal) (φ := .f32)) (pay6_at g codes s b i (col q k) q k rfl)))

/-- The first moment's new codes. -/
theorem codes_m (g : Vec Ideal S3x2688x2816 .f32) (codes : Vec Ideal S3x2688x2816 .i8) (s : Vec Ideal S3x2688x11 .f32) :
    k0_pay8 (k0_pay6 g codes s) = Soap.mCode (Soap.mArr g codes s) := by
  refine Soap.Blocks.funext_ix3 fun b i j => ?_
  unfold k0_pay8
  refine (Soap.Blocks.code_at 4294967169#32 _ _ _ _ _ b i j (blk j) (off j) sizes (split j)).trans ?_
  rw [scales_m]
  exact congrArg (fun a : EReal => Soap.codeOf 4294967169#32 a _) (pay6_at g codes s b i j (blk j) (off j) (split j))

/-- The second moment in blocks. -/
theorem pay9_at (v : FVec Ideal S3x2688x2816 .f32) (b : Fin 3) (i : Fin 2688) (j : Fin 2816) (q : Fin 11) (k : Fin 256)
    (hj : j.val = q.val * 256 + k.val) : k0_pay9 v (ix4 b i q k) = v (ix3 b i j) := by
  unfold k0_pay9
  exact Soap.Blocks.block_at _ _ b i j q k sizes hj

/-- The second moment's new scales. -/
theorem scales_v (v : FVec Ideal S3x2688x2816 .f32) : k0_pay10 v = Soap.vScale v := by
  refine Soap.Blocks.funext_ix3 fun b i q => ?_
  unfold k0_pay10
  refine (Soap.Blocks.scale_at _ b i q).trans (congrArg Soap.scaleOf
    ((Soap.Blocks.max_at (k0_pay9 v) _ _ _ b i q).trans (congrArg Soap.blockMax (funext fun k => ?_))))
  exact pay9_at v b i (col q k) q k rfl

/-- The second moment's new codes. -/
theorem codes_v (v : FVec Ideal S3x2688x2816 .f32) : k0_pay1 (k0_pay11 v) = Soap.vCode v := by
  refine Soap.Blocks.funext_ix3 fun b i j => ?_
  unfold k0_pay1 k0_pay11
  refine (Soap.Blocks.code_at 0#32 _ _ _ _ _ b i j (blk j) (off j) sizes (split j)).trans ?_
  rw [scales_v]
  exact congrArg (fun a : EReal => Soap.codeOf 0#32 a _) (pay9_at v b i j (blk j) (off j) (split j))

end Cert.ReferenceIdeal.Moments
end
-- ==== Proof.RRegion.lean ====
/-
  THE REFERENCE'S GRIDLESS CALL: what its five result arrays hold, from the rotated gradient and the old moments it finds.
-/
module

public import proofs.«01_k».proof.Proof.RMoments
public import proofs.«01_k».proof.Proof.Gen.ReferenceIdeal.Frame
public import Idealize.ShloMosaic.Lib.Pipeline.ValueKit

@[expose] public section

set_option maxRecDepth 16384

noncomputable section

namespace Cert.ReferenceIdeal.Region

open Idealize.ShloMosaic Idealize.ShloMosaic.TcCoe Idealize.SL.Sem
open Idealize.ShloMosaic.Pipeline (Dat Window)
open Cert.ReferenceIdeal Cert.ReferenceIdeal.Gen

variable (m : (ℓ : Loc nD τ sig) → Buf (Elt Ideal) ℓ) (c : Dev nD)

/-! ## The call finds each array whole -/

theorem in0 : iblk m c 0 t0_0 = V m c main_v2 := by
  funext y
  obtain ⟨h0, h1, h2⟩ : win0_0.index t0_0 0 = 0 ∧ win0_0.index t0_0 1 = 0 ∧ win0_0.index t0_0 2 = 0 := by
    decide +kernel
  blk_simp [iblk]
  refine congrArg (V m c main_v2) (Soap.ix3_ext ?_ ?_ ?_) <;> blk_simp [h0, h1, h2]

theorem in1 : iblk m c 1 t0_0 = V m c main_arg4 := by
  funext y
  obtain ⟨h0, h1, h2⟩ : win0_1.index t0_0 0 = 0 ∧ win0_1.index t0_0 1 = 0 ∧ win0_1.index t0_0 2 = 0 := by
    decide +kernel
  blk_simp [iblk]
  refine congrArg (V m c main_arg4) (Soap.ix3_ext ?_ ?_ ?_) <;> blk_simp [h0, h1, h2]

theorem in2 : iblk m c 2 t0_0 = V m c main_arg5 := by
  funext y
  obtain ⟨h0, h1, h2⟩ : win0_2.index t0_0 0 = 0 ∧ win0_2.index t0_0 1 = 0 ∧ win0_2.index t0_0 2 = 0 := by
    decide +kernel
  blk_simp [iblk]
  refine congrArg (V m c main_arg5) (Soap.ix3_ext ?_ ?_ ?_) <;> blk_simp [h0, h1, h2]

theorem in3 : iblk m c 3 t0_0 = V m c main_arg6 := by
  funext y
  obtain ⟨h0, h1, h2⟩ : win0_3.index t0_0 0 = 0 ∧ win0_3.index t0_0 1 = 0 ∧ win0_3.index t0_0 2 = 0 := by
    decide +kernel
  blk_simp [iblk]
  refine congrArg (V m c main_arg6) (Soap.ix3_ext ?_ ?_ ?_) <;> blk_simp [h0, h1, h2]

theorem in4 : iblk m c 4 t0_0 = V m c main_arg7 := by
  funext y
  obtain ⟨h0, h1, h2⟩ : win0_4.index t0_0 0 = 0 ∧ win0_4.index t0_0 1 = 0 ∧ win0_4.index t0_0 2 = 0 := by
    decide +kernel
  blk_simp [iblk]
  refine congrArg (V m c main_arg7) (Soap.ix3_ext ?_ ?_ ?_) <;> blk_simp [h0, h1, h2]

/-! ## Its results -/

theorem off_zero : (![0, 0, 0] : Fin 3 → Nat) = fun _ => 0 := by decide

/-- The first moment in blocks, as the call carries it. -/
theorem pay13 (x0 : Vec Ideal S3x2688x2816 .f32) (x1 : Vec Ideal S3x2688x2816 .i8) (x2 : Vec Ideal S3x2688x11 .f32)
    (x3 : Vec Ideal S3x2688x2816 .i8) (x4 : Vec Ideal S3x2688x11 .f32) :
    k0_pay13 x0 x1 x2 x3 x4 = k0_pay6 x0 x1 x2 := by
  unfold k0_pay13
  rw [View.ld_unit_zero off_zero, View.ld_unit_zero off_zero, View.ld_unit_zero off_zero]

/-- The second moment, as the call carries it. -/
theorem pay12 (x0 : Vec Ideal S3x2688x2816 .f32) (x1 : Vec Ideal S3x2688x2816 .i8) (x2 : Vec Ideal S3x2688x11 .f32)
    (x3 : Vec Ideal S3x2688x2816 .i8) (x4 : Vec Ideal S3x2688x11 .f32) :
    k0_pay12 x0 x1 x2 x3 x4 = k0_pay4 x0 x3 x4 := by
  unfold k0_pay12
  rw [View.ld_unit_zero off_zero, View.ld_unit_zero off_zero, View.ld_unit_zero off_zero]

theorem arr_nr : (dats m 0 c).arrAt 5 cfg0.N = Soap.nrArr (Soap.mArr (V m c main_v2) (V m c main_arg4) (V m c main_arg5)) (Soap.vArr (V m c main_v2) (V m c main_arg6) (V m c main_arg7)) := by
  refine (dats m 0 c).arrAt_eq_of_after_last 5 t0_0 (by decide +kernel) _ fun j => ?_
  blk_simp
  rw [after0_5]
  frame_out
  rw [in0, in1, in2, in3, in4, Moments.pay5]

theorem arr_mCode : (dats m 0 c).arrAt 6 cfg0.N = Soap.mCode (Soap.mArr (V m c main_v2) (V m c main_arg4) (V m c main_arg5)) := by
  refine (dats m 0 c).arrAt_eq_of_after_last 6 t0_0 (by decide +kernel) _ fun j => ?_
  blk_simp
  rw [after0_6]
  frame_out
  rw [pay13, in0, in1, in2, Moments.codes_m]

theorem arr_mScale : (dats m 0 c).arrAt 7 cfg0.N = Soap.mScale (Soap.mArr (V m c main_v2) (V m c main_arg4) (V m c main_arg5)) := by
  refine (dats m 0 c).arrAt_eq_of_after_last 7 t0_0 (by decide +kernel) _ fun j => ?_
  blk_simp
  rw [after0_7]
  frame_out
  rw [pay13, in0, in1, in2, Moments.scales_m]

theorem arr_vCode : (dats m 0 c).arrAt 8 cfg0.N = Soap.vCode (Soap.vArr (V m c main_v2) (V m c main_arg6) (V m c main_arg7)) := by
  refine (dats m 0 c).arrAt_eq_of_after_last 8 t0_0 (by decide +kernel) _ fun j => ?_
  blk_simp
  rw [after0_8]
  frame_out
  rw [pay12, in0, in3, in4, Moments.pay4, Moments.codes_v]

theorem arr_vScale : (dats m 0 c).arrAt 9 cfg0.N = Soap.vScale (Soap.vArr (V m c main_v2) (V m c main_arg6) (V m c main_arg7)) := by
  refine (dats m 0 c).arrAt_eq_of_after_last 9 t0_0 (by decide +kernel) _ fun j => ?_
  blk_simp
  rw [after0_9]
  frame_out
  rw [pay12, in0, in3, in4, Moments.pay4, Moments.scales_v]

end Cert.ReferenceIdeal.Region
end
-- ==== Proof.RHost.lean ====
/-
  THE REFERENCE'S LINES BEFORE AND AFTER ITS CALL: what they leave, from any contents `W` of the buffers they find.
-/
module

public import proofs.«01_k».proof.Proof.RBlocks
public import proofs.«01_k».proof.Proof.Gen.ReferenceIdeal.Frame
public import Idealize.ShloMosaic.Lib.Pointwise
public import Idealize.ShloMosaic.Lib.Pipeline.ValueKit

@[expose] public section

set_option maxRecDepth 16384

noncomputable section

namespace Cert.ReferenceIdeal.Host

open Idealize.ShloMosaic Idealize.ShloMosaic.TcCoe Idealize.SL.Sem
open Idealize.ShloMosaic.Pipeline (Dat Window)
open Cert.ReferenceIdeal Cert.ReferenceIdeal.Gen

variable (W : Valuation τ sig (Elt Ideal))

/-- The lines before the call leave the gradient rotated into both eigenbases. -/
theorem rotated : StableHlo.after hostOps0 W (Proc.devRef .tc main_v2)
    = Soap.rot (Soap.t1 (W (Proc.devRef .tc main_arg2)) (W (Proc.devRef .tc main_arg1))) (W (Proc.devRef .tc main_arg3)) := by
  refine Soap.Blocks.funext_ix3 fun b i j => ?_
  after_results
  pointwise
  rfl

/-- The change of the weights: the direction rotated back, at minus the step size. -/
theorem delta : StableHlo.after hostOps1 W (Proc.devRef .tc main_v23)
    = Soap.delta (fun b => Soap.stepSize ((W (Proc.devRef .tc main_arg10)) (ix1 b))) (Soap.back (Soap.t2 (W (Proc.devRef .tc main_arg2)) (W (Proc.devRef .tc main_v3_0))) (W (Proc.devRef .tc main_arg3))) := by
  refine Soap.Blocks.funext_ix3 fun b i j => ?_
  after_results
  pointwise
  rfl

/-- The new weights. -/
theorem w_new : StableHlo.after hostOps1 W (Proc.devRef .tc main_v24)
    = Soap.wNew (W (Proc.devRef .tc main_arg0)) (Soap.delta (fun b => Soap.stepSize ((W (Proc.devRef .tc main_arg10)) (ix1 b))) (Soap.back (Soap.t2 (W (Proc.devRef .tc main_arg2)) (W (Proc.devRef .tc main_v3_0))) (W (Proc.devRef .tc main_arg3)))) := by
  refine Soap.Blocks.funext_ix3 fun b i j => ?_
  after_results
  pointwise
  rfl

/-- The new left statistic. -/
theorem l_new : StableHlo.after hostOps1 W (Proc.devRef .tc main_v30)
    = Soap.lNew (W (Proc.devRef .tc main_arg8)) (W (Proc.devRef .tc main_arg1)) := by
  refine Soap.Blocks.funext_ix3 fun b i j => ?_
  after_results
  pointwise
  rfl

/-- The new right statistic. -/
theorem r_new : StableHlo.after hostOps1 W (Proc.devRef .tc main_v36)
    = Soap.rNew (W (Proc.devRef .tc main_arg9)) (W (Proc.devRef .tc main_arg1)) := by
  refine Soap.Blocks.funext_ix3 fun b i j => ?_
  after_results
  pointwise
  rfl

end Cert.ReferenceIdeal.Host
end
-- ==== Proof.RRun.lean ====
/-
  THE REFERENCE'S RUN WITH ITS RESULTS: every execution of the reference's program terminates, nothing faulting, and each
  final state has the eight results at the step's values and the arguments as launched.
-/
module

public import proofs.«01_k».proof.Proof.RRegion
public import proofs.«01_k».proof.Proof.RHost

@[expose] public section

set_option maxRecDepth 16384

noncomputable section

namespace Cert.ReferenceIdeal.Results

open Idealize.ShloMosaic Idealize.ShloMosaic.TcCoe Idealize.SL.Sem
open Idealize.ShloMosaic.Pipeline (Dat Window)
open Cert.ReferenceIdeal Cert.ReferenceIdeal.Gen

variable (m : (ℓ : Loc nD τ sig) → Buf (Elt Ideal) ℓ) (ρ : Dev nD → PrngReg) (c : Dev nD)

/-! ## What the call finds and leaves -/

/-- The call finds the rotated gradient. -/
theorem gr : V m c main_v2 = Soap.rot (Soap.t1 (m ((c.tc : Thread nD τ).loc main_arg2)) (m ((c.tc : Thread nD τ).loc main_arg1))) (m ((c.tc : Thread nD τ).loc main_arg3)) :=
  Host.rotated (fun b => m (c, b))

theorem mom1 : Soap.mArr (V m c main_v2) (V m c main_arg4) (V m c main_arg5) = Soap.stepM (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold Soap.stepM; rw [gr, V_main_arg4, V_main_arg5]

theorem mom2 : Soap.vArr (V m c main_v2) (V m c main_arg6) (V m c main_arg7) = Soap.stepV (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7)) := by
  unfold Soap.stepV; rw [gr, V_main_arg6, V_main_arg7]

/-! ## What the lines after the call find -/

/-- The contents of the buffers when the call has ended. -/
abbrev X : Valuation τ sig (Elt Ideal) :=
  Pipeline.withArrays (cfgs 0).spec c (V0 m c) fun w => (dats m 0 c).arrAt w (cfgs 0).N

/-- A buffer that is no array of the call is as the call found it. -/
theorem x_of (r : Ref sig .tc) (h : ∀ w, Pipeline.arrRef spec0 w ≠ r) : X m c (Proc.devRef .tc r) = V m c r :=
  Pipeline.withArrays_of_ne _ c (V0 m c) _ r h

theorem x_nr : X m c (Proc.devRef .tc main_v3_0) = Soap.nrArr (Soap.stepM (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) (Soap.stepV (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7))) := by
  refine (Pipeline.withArrays_arr spec0 launch0.win.arr_inj c (V0 m c) _ 5).trans ((Region.arr_nr m c).trans ?_)
  rw [mom1, mom2]

theorem x_arg0 : X m c (Proc.devRef .tc main_arg0) = m ((c.tc : Thread nD τ).loc main_arg0) :=
  (x_of m c main_arg0 (by decide)).trans (V_main_arg0 m c)

theorem x_arg1 : X m c (Proc.devRef .tc main_arg1) = m ((c.tc : Thread nD τ).loc main_arg1) :=
  (x_of m c main_arg1 (by decide)).trans (V_main_arg1 m c)

theorem x_arg2 : X m c (Proc.devRef .tc main_arg2) = m ((c.tc : Thread nD τ).loc main_arg2) :=
  (x_of m c main_arg2 (by decide)).trans (V_main_arg2 m c)

theorem x_arg3 : X m c (Proc.devRef .tc main_arg3) = m ((c.tc : Thread nD τ).loc main_arg3) :=
  (x_of m c main_arg3 (by decide)).trans (V_main_arg3 m c)

theorem x_arg8 : X m c (Proc.devRef .tc main_arg8) = m ((c.tc : Thread nD τ).loc main_arg8) :=
  (x_of m c main_arg8 (by decide)).trans (V_main_arg8 m c)

theorem x_arg9 : X m c (Proc.devRef .tc main_arg9) = m ((c.tc : Thread nD τ).loc main_arg9) :=
  (x_of m c main_arg9 (by decide)).trans (V_main_arg9 m c)

theorem x_arg10 : X m c (Proc.devRef .tc main_arg10) = m ((c.tc : Thread nD τ).loc main_arg10) :=
  (x_of m c main_arg10 (by decide)).trans (V_main_arg10 m c)

/-! ## The eight results -/

theorem delta : Pipeline.afterTail₀ cfgs (dats m) 0 (V0 m) [hostOps1] c main_v23
    = Soap.stepDelta (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg10)) := by
  refine (Host.delta (X m c)).trans ?_
  unfold Soap.stepDelta; rw [x_arg10, x_arg2, x_nr, x_arg3]

theorem w_new : Pipeline.afterTail₀ cfgs (dats m) 0 (V0 m) [hostOps1] c main_v24
    = Soap.wNew (m ((c.tc : Thread nD τ).loc main_arg0)) (Soap.stepDelta (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg10))) := by
  refine (Host.w_new (X m c)).trans ?_
  unfold Soap.stepDelta; rw [x_arg0, x_arg10, x_arg2, x_nr, x_arg3]

theorem l_new : Pipeline.afterTail₀ cfgs (dats m) 0 (V0 m) [hostOps1] c main_v30
    = Soap.lNew (m ((c.tc : Thread nD τ).loc main_arg8)) (m ((c.tc : Thread nD τ).loc main_arg1)) := by
  refine (Host.l_new (X m c)).trans ?_
  rw [x_arg8, x_arg1]

theorem r_new : Pipeline.afterTail₀ cfgs (dats m) 0 (V0 m) [hostOps1] c main_v36
    = Soap.rNew (m ((c.tc : Thread nD τ).loc main_arg9)) (m ((c.tc : Thread nD τ).loc main_arg1)) := by
  refine (Host.r_new (X m c)).trans ?_
  rw [x_arg9, x_arg1]

theorem m_codes : (dats m 0 c).arrAt 6 cfg0.N = Soap.mCode (Soap.stepM (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) := by
  rw [Region.arr_mCode, mom1]

theorem m_scales : (dats m 0 c).arrAt 7 cfg0.N = Soap.mScale (Soap.stepM (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) := by
  rw [Region.arr_mScale, mom1]

theorem v_codes : (dats m 0 c).arrAt 8 cfg0.N = Soap.vCode (Soap.stepV (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7))) := by
  rw [Region.arr_vCode, mom2]

theorem v_scales : (dats m 0 c).arrAt 9 cfg0.N = Soap.vScale (Soap.stepV (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7))) := by
  rw [Region.arr_vScale, mom2]

/-- Every execution terminates with the eight results at the step's values and the arguments as launched. -/
theorem run_results : θ_run defs (onTc (τ := τ) (main (F := Ideal))) ⟨m, fun _ => 0, ρ⟩ (fun r => ∀ c : Dev nD,
      r.2.mem ((c.tc : Thread nD τ).loc main_v24) = Soap.wNew (m ((c.tc : Thread nD τ).loc main_arg0)) (Soap.stepDelta (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg10)))
      ∧ r.2.mem ((c.tc : Thread nD τ).loc main_v23) = Soap.stepDelta (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg10))
      ∧ r.2.mem ((c.tc : Thread nD τ).loc main_v30) = Soap.lNew (m ((c.tc : Thread nD τ).loc main_arg8)) (m ((c.tc : Thread nD τ).loc main_arg1))
      ∧ r.2.mem ((c.tc : Thread nD τ).loc main_v36) = Soap.rNew (m ((c.tc : Thread nD τ).loc main_arg9)) (m ((c.tc : Thread nD τ).loc main_arg1))
      ∧ r.2.mem ((c.tc : Thread nD τ).loc main_v3_1) = Soap.mCode (Soap.stepM (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)))
      ∧ r.2.mem ((c.tc : Thread nD τ).loc main_v3_2) = Soap.mScale (Soap.stepM (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)))
      ∧ r.2.mem ((c.tc : Thread nD τ).loc main_v3_3) = Soap.vCode (Soap.stepV (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7)))
      ∧ r.2.mem ((c.tc : Thread nD τ).loc main_v3_4) = Soap.vScale (Soap.stepV (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨((h c).2 main_v24 (Pipeline.mem_restRefs_of main_v24 (by decide) (by decide))).trans (w_new m c),
     ((h c).2 main_v23 (Pipeline.mem_restRefs_of main_v23 (by decide) (by decide))).trans (delta m c),
     ((h c).2 main_v30 (Pipeline.mem_restRefs_of main_v30 (by decide) (by decide))).trans (l_new m c),
     ((h c).2 main_v36 (Pipeline.mem_restRefs_of main_v36 (by decide) (by decide))).trans (r_new m c),
     ((h c).1 6).trans (m_codes m c),
     ((h c).1 7).trans (m_scales m c),
     ((h c).1 8).trans (v_codes m c),
     ((h c).1 9).trans (v_scales m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c),
     ((h c).1 1).trans (((dats m 0 c).arrAt_in 1 rfl _).trans ((A_eq m c 1).trans (V_main_arg4 m c))),
     ((h c).1 2).trans (((dats m 0 c).arrAt_in 2 rfl _).trans ((A_eq m c 2).trans (V_main_arg5 m c))),
     ((h c).1 3).trans (((dats m 0 c).arrAt_in 3 rfl _).trans ((A_eq m c 3).trans (V_main_arg6 m c))),
     ((h c).1 4).trans (((dats m 0 c).arrAt_in 4 rfl _).trans ((A_eq m c 4).trans (V_main_arg7 m c))),
     ((h c).2 main_arg8 (Pipeline.mem_restRefs_of main_arg8 (by decide) (by decide))).trans (W_main_arg8 m (dats m) c),
     ((h c).2 main_arg9 (Pipeline.mem_restRefs_of main_arg9 (by decide) (by decide))).trans (W_main_arg9 m (dats m) c),
     ((h c).2 main_arg10 (Pipeline.mem_restRefs_of main_arg10 (by decide) (by decide))).trans (W_main_arg10 m (dats m) c)⟩) (run_main m ρ)

end Cert.ReferenceIdeal.Results
end
-- ==== Proof.Equation.lean ====
/-
  THE EQUATION: from equal arguments the kernel's eight results and the reference's are the same arrays, those of `Soap`.
-/
module

public import proofs.«01_k».proof.Defs
public import proofs.«01_k».proof.Proof.KRun
public import proofs.«01_k».proof.Proof.RRun

@[expose] public section

set_option maxRecDepth 16384

noncomputable section

namespace Cert.Equation

open Idealize.ShloMosaic Idealize.SL.Sem

/-- The kernel at exact arithmetic and the reference at exact arithmetic compute the same eight results. -/
theorem algebraic : algebraic_KernelIdeal_ReferenceIdeal (hKernelIdeal := Cert.KernelIdeal.Gen.facts)
    (hReferenceIdeal := Cert.ReferenceIdeal.Gen.facts) := by
  intro m g m' g' _ hargs
  refine ⟨fun c => Soap.wNew (m ((c.tc : Thread Cert.KernelIdeal.nD Cert.KernelIdeal.τ).loc Cert.KernelIdeal.main_arg0)) (Soap.stepDelta (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg10))),
    fun c => (Soap.stepDelta (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg10))),
    fun c => Soap.lNew (m ((c.tc : Thread Cert.KernelIdeal.nD Cert.KernelIdeal.τ).loc Cert.KernelIdeal.main_arg8)) (m ((c.tc : Thread Cert.KernelIdeal.nD Cert.KernelIdeal.τ).loc Cert.KernelIdeal.main_arg1)),
    fun c => Soap.rNew (m ((c.tc : Thread Cert.KernelIdeal.nD Cert.KernelIdeal.τ).loc Cert.KernelIdeal.main_arg9)) (m ((c.tc : Thread Cert.KernelIdeal.nD Cert.KernelIdeal.τ).loc Cert.KernelIdeal.main_arg1)),
    fun c => Soap.mCode (Soap.stepM (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))),
    fun c => Soap.mScale (Soap.stepM (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))),
    fun c => Soap.vCode (Soap.stepV (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))),
    fun c => Soap.vScale (Soap.stepV (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))),
    Cert.KernelIdeal.Results.run_results m g,
    (θ_run _ _ _).mono (fun r h c => ?_) (Cert.ReferenceIdeal.Results.run_results m' g')⟩
  obtain ⟨a0, a1, a2, a3, a4, a5, a6, a7, a8, a9, a10⟩ := hargs c
  obtain ⟨h0, h1, h2, h3, h4, h5, h6, h7, hrest⟩ := h c
  rw [a0, a1, a2, a3, a4, a5, a6, a7, a10] at h0
  rw [a1, a2, a3, a4, a5, a6, a7, a10] at h1
  rw [a8, a1] at h2
  rw [a9, a1] at h3
  rw [a1, a2, a3, a4, a5] at h4
  rw [a1, a2, a3, a4, a5] at h5
  rw [a1, a2, a3, a6, a7] at h6
  rw [a1, a2, a3, a6, a7] at h7
  exact ⟨h0, h1, h2, h3, h4, h5, h6, h7, hrest⟩

end Cert.Equation
end
-- ==== Proof.lean ====
/-
  THE CLAIMS: `Cert.Claim` (proofs.«01_k».proof.Defs). The frames and the stated facts are the generated modules'; the
  equation of the kernel's results and the reference's is `Cert.Equation.algebraic`.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The frames of the three programs, the printed kernel kept by its idealization, and the equation of all eight results. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, fun m ρ _ => Cert.ReferenceIdeal.Gen.frame m ρ, trivial,
  Cert.Equation.algebraic⟩

end Cert.Proof

end
